-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 8, 64]⟩ ⟨4, ![2, 128, 32, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 8, 64]⟩ ⟨4, ![2, 128, 32, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x512 : Shape := ⟨2, ![512, 512]⟩
abbrev S2x128x8x64 : Shape := ⟨4, ![2, 128, 8, 64]⟩
abbrev S_ : Shape := ⟨0, ![]⟩

class Facts : Prop where
  bcast_S_S2x128x512 : S_.BroadcastsInDim S2x128x512 (![] : Fin 0 → Fin S2x128x512.rank)
  bcast_S_S512x512 : S_.BroadcastsInDim S512x512 (![] : Fin 0 → Fin S512x512.rank)
  bcast_S_S2x128x8x64 : S_.BroadcastsInDim S2x128x8x64 (![] : Fin 0 → Fin S2x128x8x64.rank)

variable [Facts]

def fn {F : FTy → Type} [FloatOps F] (main_arg0 : FVec F S2x128x512 .bf16) (main_arg1 : FVec F S512x512 .bf16) (main_arg2 : FVec F S2x128x8x64 .bf16) (main_arg3 : FVec F S2x128x8x64 .bf16) (main_arg4 : FVec F S512x512 .bf16) : IVec S2x128x512 1 × IVec S512x512 1 × IVec S2x128x8x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x512 .bf16 := Host.absf main_arg1
  let main_cst_0 : FVec F S_ .bf16 := constant S_ .bf16 0x7F80#16
  let main_v4 : FVec F S512x512 .bf16 := broadcastInDim S512x512 ![] bcast_S_S512x512 main_cst_0
  let main_v5 : IVec S512x512 1 := cmpf .olt main_v3 main_v4
  let main_v6 : FVec F S2x128x8x64 .bf16 := Host.absf main_arg2
  let main_cst_1 : FVec F S_ .bf16 := constant S_ .bf16 0x7F80#16
  let main_v7 : FVec F S2x128x8x64 .bf16 := broadcastInDim S2x128x8x64 ![] bcast_S_S2x128x8x64 main_cst_1
  let main_v8 : IVec S2x128x8x64 1 := cmpf .olt main_v6 main_v7
  (main_v2, main_v5, main_v8)
-- ==== Pre_finite_ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S_ : Shape := ⟨0, ![]⟩

class Facts : Prop where
  bcast_S_S2x128x512 : S_.BroadcastsInDim S2x128x512 (![] : Fin 0 → Fin S2x128x512.rank)
  bcast_S_S512x2048 : S_.BroadcastsInDim S512x2048 (![] : Fin 0 → Fin S512x2048.rank)
  bcast_S_S2x128x32x64 : S_.BroadcastsInDim S2x128x32x64 (![] : Fin 0 → Fin S2x128x32x64.rank)

variable [Facts]

def fn {F : FTy → Type} [FloatOps F] (main_arg0 : FVec F S2x128x512 .bf16) (main_arg1 : FVec F S512x2048 .bf16) (main_arg2 : FVec F S2x128x32x64 .bf16) (main_arg3 : FVec F S2x128x32x64 .bf16) (main_arg4 : FVec F S2048x512 .bf16) : IVec S2x128x512 1 × IVec S512x2048 1 × IVec S2x128x32x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x2048 .bf16 := Host.absf main_arg1
  let main_cst_0 : FVec F S_ .bf16 := constant S_ .bf16 0x7F80#16
  let main_v4 : FVec F S512x2048 .bf16 := broadcastInDim S512x2048 ![] bcast_S_S512x2048 main_cst_0
  let main_v5 : IVec S512x2048 1 := cmpf .olt main_v3 main_v4
  let main_v6 : FVec F S2x128x32x64 .bf16 := Host.absf main_arg2
  let main_cst_1 : FVec F S_ .bf16 := constant S_ .bf16 0x7F80#16
  let main_v7 : FVec F S2x128x32x64 .bf16 := broadcastInDim S2x128x32x64 ![] bcast_S_S2x128x32x64 main_cst_1
  let main_v8 : IVec S2x128x32x64 1 := cmpf .olt main_v6 main_v7
  (main_v2, main_v5, main_v8)
-- ==== Kernel.lean ====
abbrev S2x128x512 : Shape := ⟨3, ![2, 128, 512]⟩
abbrev S512x512 : Shape := ⟨2, ![512, 512]⟩
abbrev S2x128x8x64 : Shape := ⟨4, ![2, 128, 8, 64]⟩
abbrev S2x4x64x512 : Shape := ⟨4, ![2, 4, 64, 512]⟩
abbrev S2x4 : Shape := ⟨2, ![2, 4]⟩
abbrev S_ : Shape := ⟨0, ![]⟩
abbrev S256x512 : Shape := ⟨2, ![256, 512]⟩
abbrev S128x512 : Shape := ⟨2, ![128, 512]⟩
abbrev S1x128x8x64 : Shape := ⟨4, ![1, 128, 8, 64]⟩
abbrev S128x8x64 : Shape := ⟨3, ![128, 8, 64]⟩
abbrev S128x128 : Shape := ⟨2, ![128, 128]⟩
abbrev S128 : Shape := ⟨1, ![128]⟩
abbrev S128x1 : Shape := ⟨2, ![128, 1]⟩
abbrev S64x512 : Shape := ⟨2, ![64, 512]⟩
abbrev S1x1x64x512 : Shape := ⟨4, ![1, 1, 64, 512]⟩
abbrev S1x1 : Shape := ⟨2, ![1, 1]⟩
abbrev S1x64x512 : Shape := ⟨3, ![1, 64, 512]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S2x128x8x64, .bf16⟩
  | .hbm, ⟨3, _⟩ => ⟨S2x128x8x64, .bf16⟩
  | .hbm, ⟨4, _⟩ => ⟨S512x512, .bf16⟩
  | .hbm, ⟨5, _⟩ => ⟨S2x128x512, .bf16⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S2x128x8x64, .bf16⟩
  | .local _ .vmem, ⟨4, _⟩ => ⟨S2x128x8x64, .bf16⟩
  | .local _ .vmem, ⟨5, _⟩ => ⟨S2x128x512, .bf16⟩
  | .local _ .vmem, ⟨6, _⟩ => ⟨S2x4x64x512, .bf16⟩
  | .local _ .vmem, ⟨7, _⟩ => ⟨S2x4x64x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_94 : BitVec 32 := 1#32
  let v197 : BitVec 32 := Scalar.muli v3 c1_i32_94
  let v198 : BitVec 32 := Scalar.addi c0_i32_95 v197
  v198.toNat
def k0_dev4 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_111 : BitVec 32 := 1#32
  let v212 : BitVec 32 := Scalar.muli v3 c1_i32_111
  let v213 : BitVec 32 := Scalar.addi c0_i32_112 v212
  v213.toNat
def k0_dev5 (d0 : Dev nD) : Nat :=
  let c0_i32_195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_194 : BitVec 32 := 1#32
  let v374 : BitVec 32 := Scalar.muli v3 c1_i32_194
  let v375 : BitVec 32 := Scalar.addi c0_i32_195 v374
  v375.toNat
def k0_dev6 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_211 : BitVec 32 := 1#32
  let v389 : BitVec 32 := Scalar.muli v3 c1_i32_211
  let v390 : BitVec 32 := Scalar.addi c0_i32_212 v389
  v390.toNat
def k0_dev7 (d0 : Dev nD) : Nat :=
  let c0_i32_248 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_247 : BitVec 32 := 1#32
  let v415 : BitVec 32 := Scalar.muli v4 c1_i32_247
  let v416 : BitVec 32 := Scalar.addi c0_i32_248 v415
  v416.toNat
def k0_dev8 (d0 : Dev nD) : Nat :=
  let c0_i32_284 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_283 : BitVec 32 := 1#32
  let v441 : BitVec 32 := Scalar.muli v4 c1_i32_283
  let v442 : BitVec 32 := Scalar.addi c0_i32_284 v441
  v442.toNat
def k0_dev9 (d0 : Dev nD) : Nat :=
  let c0_i32_320 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_319 : BitVec 32 := 1#32
  let v467 : BitVec 32 := Scalar.muli v4 c1_i32_319
  let v468 : BitVec 32 := Scalar.addi c0_i32_320 v467
  v468.toNat
def k0_dev10 (d0 : Dev nD) : Nat :=
  let c0_i32_356 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_355 : BitVec 32 := 1#32
  let v493 : BitVec 32 := Scalar.muli v4 c1_i32_355
  let v494 : BitVec 32 := Scalar.addi c0_i32_356 v493
  v494.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x8x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S2x128x2048 : Shape := ⟨3, ![2, 128, 2048]⟩
abbrev S_ : Shape := ⟨0, ![]⟩
abbrev S2x32x128x1 : Shape := ⟨4, ![2, 32, 128, 1]⟩
abbrev S2x32x128x128 : Shape := ⟨4, ![2, 32, 128, 128]⟩
abbrev S2x32x128 : Shape := ⟨3, ![2, 32, 128]⟩
abbrev S2x128x32x1 : Shape := ⟨4, ![2, 128, 32, 1]⟩
abbrev S2x32x64x128 : Shape := ⟨4, ![2, 32, 64, 128]⟩

abbrev nBuf : Space → Nat
  | .hbm => 46
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x2048, .bf16⟩
  | .hbm, ⟨2, _⟩ => ⟨S2x128x32x64, .bf16⟩
  | .hbm, ⟨3, _⟩ => ⟨S2x128x32x64, .bf16⟩
  | .hbm, ⟨4, _⟩ => ⟨S2048x512, .bf16⟩
  | .hbm, ⟨5, _⟩ => ⟨S2x128x2048, .f32⟩
  | .hbm, ⟨6, _⟩ => ⟨S2x128x2048, .bf16⟩
  | .hbm, ⟨7, _⟩ => ⟨S2x128x32x64, .bf16⟩
  | .hbm, ⟨8, _⟩ => ⟨S_, .f32⟩
  | .hbm, ⟨9, _⟩ => ⟨S2x128x32x64, .f32⟩
  | .hbm, ⟨10, _⟩ => ⟨S_, .f32⟩
  | .hbm, ⟨11, _⟩ => ⟨S2x32x128x1, .f32⟩
  | .hbm, ⟨12, _⟩ => ⟨S_, .f32⟩
  | .hbm, ⟨13, _⟩ => ⟨S2x32x128x1, .f32⟩
  | .hbm, ⟨14, _⟩ => ⟨S2x32x128x128, .f32⟩
  | .hbm, ⟨15, _⟩ => ⟨S2x32x128x128, .bf16⟩
  | .hbm, ⟨16, _⟩ => ⟨S2x32x128x128, .f32⟩
  | .hbm, ⟨17, _⟩ => ⟨S_, .f32⟩
  | .hbm, ⟨18, _⟩ => ⟨S2x32x128x128, .f32⟩
  | .hbm, ⟨19, _⟩ => ⟨S2x32x128x128, .f32⟩
  | .hbm, ⟨20, _⟩ => ⟨S_, .f32⟩
  | .hbm, ⟨21, _⟩ => ⟨S2x32x128, .f32⟩
  | .hbm, ⟨22, _⟩ => ⟨S2x32x128x1, .f32⟩
  | .hbm, ⟨23, _⟩ => ⟨S2x32x128x1, .f32⟩
  | .hbm, ⟨24, _⟩ => ⟨S2x32x128x1, .f32⟩
  | .hbm, ⟨25, _⟩ => ⟨S2x32x128x1, .f32⟩
  | .hbm, ⟨26, _⟩ => ⟨S2x32x128x128, .f32⟩
  | .hbm, ⟨27, _⟩ => ⟨S2x32x128x128, .f32⟩
  | .hbm, ⟨28, _⟩ => ⟨S2x32x128x128, .f32⟩
  | .hbm, ⟨29, _⟩ => ⟨S2x32x128x1, .f32⟩
  | .hbm, ⟨30, _⟩ => ⟨S_, .f32⟩
  | .hbm, ⟨31, _⟩ => ⟨S2x32x128, .f32⟩
  | .hbm, ⟨32, _⟩ => ⟨S2x32x128x1, .f32⟩
  | .hbm, ⟨33, _⟩ => ⟨S2x32x128x1, .f32⟩
  | .hbm, ⟨34, _⟩ => ⟨S2x128x32x1, .f32⟩
  | .hbm, ⟨35, _⟩ => ⟨S2x128x32x64, .f32⟩
  | .hbm, ⟨36, _⟩ => ⟨S2x128x32x64, .f32⟩
  | .hbm, ⟨37, _⟩ => ⟨S2x32x64x128, .f32⟩
  | .hbm, ⟨38, _⟩ => ⟨S2x128x32x64, .f32⟩
  | .hbm, ⟨39, _⟩ => ⟨S2x128x32x64, .f32⟩
  | .hbm, ⟨40, _⟩ => ⟨S2x128x32x1, .f32⟩
  | .hbm, ⟨41, _⟩ => ⟨S2x128x32x64, .f32⟩
  | .hbm, ⟨42, _⟩ => ⟨S2x128x32x64, .f32⟩
  | .hbm, ⟨43, _⟩ => ⟨S2x128x2048, .f32⟩
  | .hbm, ⟨44, _⟩ => ⟨S2x128x512, .f32⟩
  | .hbm, ⟨45, _⟩ => ⟨S2x128x512, .bf16⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Chunks.lean ====
/-
# What each device computes, sends and stores, as functions of the arrays it was given

The kernel splits the `2 × 128 × 512` partial product of a device into four chunks of 64 rows
(chunk `i` is rows `64·(i % 2) …` of batch `i / 2`), and adds each chunk over the four devices in two
exchanges: first with the device whose number differs in the lowest bit, then with device `3 − c`.
The definitions below name the chunks, what travels in the two exchanges and what is stored, over any
float values, in the words of the skeleton's payloads.
-/
module

public import proofs.«01_k».proof.Proof.Gen.KernelIdeal
public import proofs.«01_k».proof.Proof.Gen.KernelIdeal.Skeleton

@[expose] public section

set_option maxRecDepth 16384

noncomputable section

namespace Cert.KernelProof

open Cert.KernelIdeal Cert.KernelIdeal.Gen
open Idealize.ShloMosaic

variable {F : FTy → Type} [FloatOps F]

/-- The five arrays of one device, as its body loads them. -/
structure Inputs (F : FTy → Type) where
  /-- the activations, the same on every device -/
  x : Vec F S2x128x512 .bf16
  /-- the device's 512 columns of the query projection -/
  wq : Vec F S512x512 .bf16
  /-- the device's eight heads of the keys -/
  k : Vec F S2x128x8x64 .bf16
  /-- the device's eight heads of the values -/
  v : Vec F S2x128x8x64 .bf16
  /-- the device's 512 rows of the output projection -/
  wo : Vec F S512x512 .bf16

/-- The keys of batch 0, read off the staging buffer. -/
def keys0 (I : Inputs F) : Vec F S1x128x8x64 .bf16 :=
  (Memref.whole cc0_stg3_0).view.readAt (Elt F) (Rect.unit (s := S2x128x8x64) ![0, 0, 0, 0] S1x128x8x64.size inb_S2x128x8x64_S1x128x8x64_0_0_0_0).toLoadRect I.k
/-- The keys of batch 1. -/
def keys1 (I : Inputs F) : Vec F S1x128x8x64 .bf16 :=
  (Memref.whole cc0_stg3_0).view.readAt (Elt F) (Rect.unit (s := S2x128x8x64) ![1, 0, 0, 0] S1x128x8x64.size inb_S2x128x8x64_S1x128x8x64_1_0_0_0).toLoadRect I.k
/-- The values of batch 0, read off the staging buffer. -/
def vals0 (I : Inputs F) : Vec F S1x128x8x64 .bf16 :=
  (Memref.whole cc0_stg4_0).view.readAt (Elt F) (Rect.unit (s := S2x128x8x64) ![0, 0, 0, 0] S1x128x8x64.size inb_S2x128x8x64_S1x128x8x64_0_0_0_0).toLoadRect I.v
/-- The values of batch 1. -/
def vals1 (I : Inputs F) : Vec F S1x128x8x64 .bf16 :=
  (Memref.whole cc0_stg4_0).view.readAt (Elt F) (Rect.unit (s := S2x128x8x64) ![1, 0, 0, 0] S1x128x8x64.size inb_S2x128x8x64_S1x128x8x64_1_0_0_0).toLoadRect I.v

/-- The number of the lane. -/
def lane : IVec S128x512 32 := iota .tc S128x512 32 [1] iota_S128x512_d1_w32
/-- Which of the eight heads a lane belongs to (`lane / 64`). -/
def headOf : IVec S128x512 32 := k0_pay4 lane 64#32 k0_pay2 k0_pay3
/-- The zero a masked query lane takes. -/
def z16 : F .bf16 := FloatOps.ofBits .bf16 0x0000#16

/-- The queries of all 256 rows. -/
def queries (I : Inputs F) : FVec F S256x512 .f32 := k0_pay1 I.x I.wq
/-- The output weights as the products take them. -/
def wo' (I : Inputs F) : FVec F S512x512 .bf16 := k0_pay5 I.wo

section Batch0
variable (I : Inputs F)
/-- The queries of batch 0. -/
def q0 : FVec F S128x512 .bf16 := k0_pay6 (queries I)
/-- The keys of batch 0 with the heads side by side. -/
def kk0 : FVec F S128x512 .bf16 := k0_pay7 (keys0 I)
/-- The values of batch 0 with the heads side by side. -/
def vv0 : FVec F S128x512 .bf16 := k0_pay8 (vals0 I)
/-- The attention output of batch 0 after the first head. -/
def att0a : FVec F S128x512 .f32 := k0_pay9 (queries I) lane 64#32 k0_pay2 k0_pay3 (keys0 I) (vals0 I)
/-- The attention output of batch 0 after three heads. -/
def att0b : FVec F S128x512 .f32 := k0_pay11 headOf (q0 I) (kk0 I) (vv0 I) (att0a I) (k0_pay10 lane 64#32 k0_pay2 k0_pay3) z16
/-- The attention output of batch 0 after six heads. -/
def att0c : FVec F S128x512 .f32 := k0_pay15 headOf (q0 I) (kk0 I) (vv0 I) (att0b I) (k0_pay12 headOf) (k0_pay13 headOf (q0 I) (kk0 I)) (k0_pay14 headOf (q0 I) (kk0 I))
/-- Batch 0 of the device's partial product. -/
def prod0 : FVec F S128x512 .f32 := k0_pay17 headOf (wo' I) (q0 I) (kk0 I) (vv0 I) (att0c I) (k0_pay16 headOf) z16
end Batch0

section Batch1
variable (I : Inputs F)
/-- The queries of batch 1. -/
def q1 : FVec F S128x512 .bf16 := k0_pay22 (queries I)
/-- The keys of batch 1 with the heads side by side. -/
def kk1 : FVec F S128x512 .bf16 := k0_pay23 (keys1 I)
/-- The values of batch 1 with the heads side by side. -/
def vv1 : FVec F S128x512 .bf16 := k0_pay24 (vals1 I)
/-- The attention output of batch 1 after the first head. -/
def att1a : FVec F S128x512 .f32 := k0_pay25 (queries I) headOf (keys1 I) (vals1 I)
/-- The attention output of batch 1 after four heads. -/
def att1b : FVec F S128x512 .f32 := k0_pay28 headOf (q1 I) (kk1 I) (vv1 I) (att1a I) (k0_pay26 headOf) (k0_pay27 (queries I) headOf (keys1 I))
/-- The attention output of batch 1 after six heads. -/
def att1c : FVec F S128x512 .f32 := k0_pay31 headOf (q1 I) (kk1 I) (vv1 I) (att1b I) (k0_pay29 headOf) (k0_pay30 headOf (q1 I))
/-- Batch 1 of the device's partial product. -/
def prod1 : FVec F S128x512 .f32 := k0_pay34 headOf (wo' I) (q1 I) (kk1 I) (vv1 I) (att1c I) (k0_pay32 headOf) (k0_pay33 headOf (q1 I) (kk1 I))
end Batch1

/-- The four chunks of the device's partial product. -/
def part (I : Inputs F) : Fin 4 → FVec F S64x512 .f32
  | 0 => k0_pay18 headOf (wo' I) (q0 I) (kk0 I) (vv0 I) (att0c I) (k0_pay16 headOf) z16
  | 1 => k0_pay20 (prod0 I)
  | 2 => k0_pay35 headOf (wo' I) (q1 I) (kk1 I) (vv1 I) (att1c I) (k0_pay32 headOf) (k0_pay33 headOf (q1 I) (kk1 I))
  | 3 => k0_pay37 (prod1 I)

/-- What the device sends of chunk `i` in the first exchange. -/
def wire0 (I : Inputs F) : Fin 4 → Vec F S1x1x64x512 .bf16
  | 0 => k0_pay19 headOf (wo' I) (q0 I) (kk0 I) (vv0 I) (att0c I) (k0_pay16 headOf) z16
  | 1 => k0_pay21 (prod0 I)
  | 2 => k0_pay36 headOf (wo' I) (q1 I) (kk1 I) (vv1 I) (att1c I) (k0_pay32 headOf) (k0_pay33 headOf (q1 I) (kk1 I))
  | 3 => k0_pay38 (prod1 I)

/-- Chunk `i` after the first exchange, `r` the chunk that arrived. -/
def acc (I : Inputs F) : Fin 4 → Vec F S1x1x64x512 .bf16 → FVec F S64x512 .f32
  | 0 => k0_pay39 (part I 0)
  | 1 => k0_pay41 (part I 1)
  | 2 => k0_pay43 (part I 2)
  | 3 => k0_pay45 (part I 3)
/-- What is sent of chunk `i` in the second exchange, `r` the chunk that arrived in the first. -/
def wire1 (I : Inputs F) : Fin 4 → Vec F S1x1x64x512 .bf16 → Vec F S1x1x64x512 .bf16
  | 0 => k0_pay40 (part I 0)
  | 1 => k0_pay42 (part I 1)
  | 2 => k0_pay44 (part I 2)
  | 3 => k0_pay46 (part I 3)

/-- What is stored of chunk `i`: `r` arrived in the first exchange, `r'` in the second. -/
def stored (I : Inputs F) : Fin 4 → Vec F S1x1x64x512 .bf16 → Vec F S1x1x64x512 .bf16 → Vec F S1x64x512 .bf16
  | 0 => fun r => k0_pay47 (acc I 0 r)
  | 1 => fun r => k0_pay48 (acc I 1 r)
  | 2 => fun r => k0_pay49 (acc I 2 r)
  | 3 => fun r => k0_pay50 (acc I 3 r)

end Cert.KernelProof

end
-- ==== Proof.Wire.lean ====
/-
# The exchange: partners, slots, cells and the schedule of the semaphores

Device `c` works with two partners: `p0 c`, whose number differs from `c` in the lowest bit, and `p1 c = 3 − c`.
It tells both on the runtime's barrier semaphore that it is ready, waits for both, and then makes eight
transfers, `j = 0 … 7`: transfer `j` copies slot `(j / 4, j % 4)` of its send buffer into the same slot of the
receive buffer of `p0 c` (`j < 4`) or of `p1 c` (`j ≥ 4`). Each transfer has a send and a receive semaphore of
its own, so every semaphore goes through one round only.

* the barrier cell of `c` has two duties of one unit: `false`, paid by `p0 c`, which hands over the first four
  receive slots of `p0 c`; `true`, paid by `p1 c`, which hands over the last four of `p1 c`;
* the send cell `j` of `c` has one duty, paid by the transfer, which gives the send slot back;
* the receive cell `j` of `c` has one duty, paid by the partner's transfer, which gives the receive slot holding what
  the partner sent.

A device may wait on a receive cell of the first exchange while it still owes transfers of the second, so the cells
are levelled: barrier below the first exchange, the first exchange below the second.
-/
module

public import proofs.«01_k».proof.Proof.Chunks
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring.FamCut
public import Idealize.ShloMosaic.Lib.Writes
public import Idealize.ShloMosaic.Lib.Tactic

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's rounds and this kernel's -/

/-- The ghost state of the rounds of this kernel's cells. -/
abbrev UX : Type := URounds (GSem nD τ sig) Bool
/-- The ghost state of the pipeline's rounds and of this kernel's. -/
abbrev UU : Type := UR sig nD τ × UX

local notation "𝕄" => MT nD τ sig Unit (Elt F) ℕ UU ℕ

/-- The pipeline's component of the ghost state. -/
abbrev EP : Emb (UR sig nD τ) (MT nD τ sig Unit (Elt F) ℕ UU ℕ) := embL
/-- This kernel's component of the ghost state. -/
abbrev EX : Emb UX (MT nD τ sig Unit (Elt F) ℕ UU ℕ) := embR

variable (m : (ℓ : Loc nD τ sig) → Buf (Elt F) ℓ) (ρ : Dev nD → PrngReg)

/-- The memory at launch: any contents, all semaphore counters zero, any generator registers. -/
def s₀ : MemSt nD τ sig (Elt F) := ⟨m, fun _ => 0, ρ⟩

/-! ## The partners -/

set_option backward.proofsInPublic true in
/-- The partner of the first exchange. -/
def p0 (c : Dev nD) : Dev nD := ⟨if c.val % 2 = 0 then c.val + 1 else c.val - 1, by have : c.val < 4 := c.isLt; show _ < 4; split <;> omega⟩
set_option backward.proofsInPublic true in
/-- The partner of the second exchange. -/
def p1 (c : Dev nD) : Dev nD := ⟨3 - c.val, by show _ < 4; omega⟩

/-- The first partner's first partner is the device itself. -/
theorem p0_p0 (c : Dev nD) : p0 (p0 c) = c := by revert c; decide
/-- The second partner's second partner is the device itself. -/
theorem p1_p1 (c : Dev nD) : p1 (p1 c) = c := by revert c; decide

/-- The partner of an exchange, by its number (`false` the first). -/
def partner (b : Bool) (c : Dev nD) : Dev nD := if b then p1 c else p0 c
/-- A partner's partner is the device itself. -/
theorem partner_partner (b : Bool) (c : Dev nD) : partner b (partner b c) = c := by revert b c; decide

/-- Whether transfer `j` is of the second exchange. -/
def late (j : Fin 8) : Bool := decide (4 ≤ j.val)
/-- The device that transfer `j` of device `c` goes to, and that device `c` receives transfer `j` from. -/
def peer (j : Fin 8) (c : Dev nD) : Dev nD := partner (late j) c
/-- What transfer `j` is sent to sends its own transfer `j` back. -/
theorem peer_peer (j : Fin 8) (c : Dev nD) : peer j (peer j c) = c := partner_partner _ c

/-- The first ready signal goes to the first partner. -/
theorem dev1_eq (c : Dev nD) : (⟨k0_dev1 c, k0_dev1_lt c⟩ : Dev nD) = partner false c := by revert c; decide +kernel
/-- The second ready signal goes to the second partner. -/
theorem dev2_eq (c : Dev nD) : (⟨k0_dev2 c, k0_dev2_lt c⟩ : Dev nD) = partner true c := by revert c; decide +kernel
/-- Transfer 0 goes to its partner. -/
theorem dev3_eq (c : Dev nD) : (⟨k0_dev3 c, k0_dev3_lt c⟩ : Dev nD) = peer 0 c := by revert c; decide +kernel
/-- Transfer 1 goes to its partner. -/
theorem dev4_eq (c : Dev nD) : (⟨k0_dev4 c, k0_dev4_lt c⟩ : Dev nD) = peer 1 c := by revert c; decide +kernel
/-- Transfer 2 goes to its partner. -/
theorem dev5_eq (c : Dev nD) : (⟨k0_dev5 c, k0_dev5_lt c⟩ : Dev nD) = peer 2 c := by revert c; decide +kernel
/-- Transfer 3 goes to its partner. -/
theorem dev6_eq (c : Dev nD) : (⟨k0_dev6 c, k0_dev6_lt c⟩ : Dev nD) = peer 3 c := by revert c; decide +kernel
/-- Transfer 4 goes to its partner. -/
theorem dev7_eq (c : Dev nD) : (⟨k0_dev7 c, k0_dev7_lt c⟩ : Dev nD) = peer 4 c := by revert c; decide +kernel
/-- Transfer 5 goes to its partner. -/
theorem dev8_eq (c : Dev nD) : (⟨k0_dev8 c, k0_dev8_lt c⟩ : Dev nD) = peer 5 c := by revert c; decide +kernel
/-- Transfer 6 goes to its partner. -/
theorem dev9_eq (c : Dev nD) : (⟨k0_dev9 c, k0_dev9_lt c⟩ : Dev nD) = peer 6 c := by revert c; decide +kernel
/-- Transfer 7 goes to its partner. -/
theorem dev10_eq (c : Dev nD) : (⟨k0_dev10 c, k0_dev10_lt c⟩ : Dev nD) = peer 7 c := by revert c; decide +kernel

/-! ## Slots and cells -/

/-- The row of transfer `j` in the `2 × 4` arrays of slots and semaphores: its exchange. -/
def rowOf : Fin 8 → ℕ | 0 => 0 | 1 => 0 | 2 => 0 | 3 => 0 | 4 => 1 | 5 => 1 | 6 => 1 | 7 => 1
/-- The column of transfer `j` in those arrays: the chunk it carries. -/
def colOf : Fin 8 → ℕ | 0 => 0 | 1 => 1 | 2 => 2 | 3 => 3 | 4 => 0 | 5 => 1 | 6 => 2 | 7 => 3

/-- Each slot lies inside the buffer of slots. -/
theorem slot_inb (j : Fin 8) : ∀ a, (![rowOf j, colOf j, 0, 0] : Fin 4 → Nat) a + S1x1x64x512.size a ≤ S2x4x64x512.size a := by revert j; decide
/-- Each semaphore lies inside the array of semaphores. -/
theorem sem_inb (j : Fin 8) : ∀ a, (![rowOf j, colOf j] : Fin 2 → Nat) a + S1x1.size a ≤ S2x4.size a := by revert j; decide

/-- The rectangle of slot `j` in a buffer of slots. -/
abbrev slotR (j : Fin 8) : Rect S2x4x64x512 := Rect.unit (s := S2x4x64x512) ![rowOf j, colOf j, 0, 0] S1x1x64x512.size (slot_inb j)

/-- The buffer of send slots. -/
abbrev sBuf : Memref sig .tc .vmem S2x4x64x512 .bf16 := Memref.whole cc0_scratch0
/-- The buffer of receive slots. -/
abbrev rBuf : Memref sig .tc .vmem S2x4x64x512 .bf16 := Memref.whole cc0_scratch1

/-- Send slot `j`. -/
abbrev sM (j : Fin 8) : Memref sig .tc .vmem S1x1x64x512 .bf16 := sBuf.slice (slotR j) (fun _ => rfl)
/-- Receive slot `j`. -/
abbrev rM (j : Fin 8) : Memref sig .tc .vmem S1x1x64x512 .bf16 := rBuf.slice (slotR j) (fun _ => rfl)
/-- Send slot `j` as a transfer names it, the unit axes dropped. -/
abbrev sQ (j : Fin 8) : Memref sig .tc .vmem S64x512 .bf16 := (sM j).squeeze S64x512 squeezes_S1x1x64x512_S64x512
/-- Receive slot `j` as a transfer names it, the unit axes dropped. -/
abbrev rQ (j : Fin 8) : Memref sig .tc .vmem S64x512 .bf16 := (rM j).squeeze S64x512 squeezes_S1x1x64x512_S64x512

/-- The barrier semaphore. -/
abbrev barS : Sem sig := (SemArray.scalar (sig.barrier 0 rfl) : Sems sig S_).sem
/-- The send semaphore of transfer `j`. -/
abbrev sS (j : Fin 8) : DmaSem sig := ((cc0_scratch2.slice (Rect.unit (s := S2x4) ![rowOf j, colOf j] S1x1.size (sem_inb j))).squeeze S_ squeezes_S1x1_S_).sem
/-- The receive semaphore of transfer `j`. -/
abbrev rS (j : Fin 8) : DmaSem sig := ((cc0_scratch3.slice (Rect.unit (s := S2x4) ![rowOf j, colOf j] S1x1.size (sem_inb j))).squeeze S_ squeezes_S1x1_S_).sem

/-- The kinds of cell a device has: its barrier, its send cells, its receive cells. -/
abbrev Cell : Type := Unit ⊕ (Fin 8 ⊕ Fin 8)
/-- The semaphore of each cell. -/
def csem : Cell → SemLoc sig
  | .inl _ => .reg barS
  | .inr (.inl j) => .dma (sS j)
  | .inr (.inr j) => .dma (rS j)

/-- The barrier cell of device `c`. -/
abbrev barCell (c : Dev nD) : GSem nD τ sig := ((c : Thread nD τ), .reg barS)
/-- The send cell of transfer `j` on device `c`. -/
abbrev sendCell (c : Dev nD) (j : Fin 8) : GSem nD τ sig := ((c : Thread nD τ), .dma (sS j))
/-- The receive cell of transfer `j` on device `c`. -/
abbrev recvCell (c : Dev nD) (j : Fin 8) : GSem nD τ sig := ((c : Thread nD τ), .dma (rS j))
/-- The cell of a device by its kind. -/
abbrev kcell (ck : Dev nD × Cell) : GSem nD τ sig := ((ck.1 : Thread nD τ), csem ck.2)

/-- The send semaphores are numbered from 6. -/
theorem sS_val (j : Fin 8) : (sS j).val = 6 + j.val := by revert j; decide +kernel
/-- The receive semaphores are numbered from 14. -/
theorem rS_val (j : Fin 8) : (rS j).val = 14 + j.val := by revert j; decide +kernel

/-- The cell kind of a semaphore, read off its number. -/
def kind : SemLoc sig → Option Cell
  | .reg _ => some (.inl ())
  | .dma s => if h : 6 ≤ s.val ∧ s.val < 14 then some (.inr (.inl ⟨s.val - 6, by omega⟩))
      else if h : 14 ≤ s.val ∧ s.val < 22 then some (.inr (.inr ⟨s.val - 14, by omega⟩)) else none

/-- The kind of the barrier semaphore is that of the barrier cell. -/
theorem kind_bar : kind (.reg barS) = some (.inl ()) := rfl
/-- The kind of a send semaphore is that of the send cell. -/
theorem kind_send (j : Fin 8) : kind (.dma (sS j)) = some (.inr (.inl j)) := by
  have h := sS_val j
  unfold kind
  dsimp only
  rw [dif_pos (by omega)]
  exact congrArg (fun x => some (Sum.inr (Sum.inl x))) (Fin.ext (by show (sS j).val - 6 = j.val; omega))
/-- The kind of a receive semaphore is that of the receive cell. -/
theorem kind_recv (j : Fin 8) : kind (.dma (rS j)) = some (.inr (.inr j)) := by
  have h := rS_val j
  unfold kind
  dsimp only
  rw [dif_neg (by omega), dif_pos (by omega)]
  exact congrArg (fun x => some (Sum.inr (Sum.inr x))) (Fin.ext (by show (rS j).val - 14 = j.val; omega))
/-- The kind of a cell's semaphore is the cell. -/
theorem kind_csem (k : Cell) : kind (csem k) = some k := by
  rcases k with u | j | j
  · rfl
  · exact kind_send j
  · exact kind_recv j
/-- Different cells have different semaphores. -/
theorem csem_injective : Function.Injective csem := fun a b h => by
  have := congrArg kind h
  rw [kind_csem, kind_csem] at this
  exact Option.some.inj this

/-- The credit of one slot's transfer, the same for every slot of either buffer. -/
def N : ℕ := (cc0_scratch1 : Ref sig .tc).dmaCredit S64x512 .bf16
/-- A receive slot has the credit `N`. -/
theorem credit_r (j : Fin 8) : (rQ j).view.dmaCredit = N := rfl
/-- A send slot has the credit `N`. -/
theorem credit_s (j : Fin 8) : (sQ j).view.dmaCredit = N := rfl
/-- The credit of a slot is not zero. -/
theorem N_pos : 0 < N := View.dmaCredit_pos (rQ 0).view (by decide)

/-! ## Contents -/

/-- A window's array, staged whole. -/
def inputs (c : Dev nD) : Inputs F where
  x := (win0_0.blk (0 : Fin 1)).view.read (Elt F) ((s₀ m ρ).mem ((c : Thread nD τ).loc main_arg0))
  wq := (win0_1.blk (0 : Fin 1)).view.read (Elt F) ((s₀ m ρ).mem ((c : Thread nD τ).loc main_arg1))
  wo := (win0_2.blk (0 : Fin 1)).view.read (Elt F) ((s₀ m ρ).mem ((c : Thread nD τ).loc main_arg4))
  k := (win0_3.blk (0 : Fin 1)).view.read (Elt F) ((s₀ m ρ).mem ((c : Thread nD τ).loc main_arg2))
  v := (win0_4.blk (0 : Fin 1)).view.read (Elt F) ((s₀ m ρ).mem ((c : Thread nD τ).loc main_arg3))

/-- What device `c` sends of chunk `i` in the first exchange: its own chunk. -/
def first (c : Dev nD) (i : Fin 4) : Vec F S1x1x64x512 .bf16 := wire0 (inputs m ρ c) i
/-- What device `c` sends of chunk `i` in the second exchange: its own chunk with the first partner's added. -/
def second (c : Dev nD) (i : Fin 4) : Vec F S1x1x64x512 .bf16 := wire1 (inputs m ρ c) i (first m ρ (p0 c) i)
/-- What device `c` sends by transfer `j`. -/
def sent (c : Dev nD) : Fin 8 → Vec F S1x1x64x512 .bf16
  | 0 => first m ρ c 0 | 1 => first m ρ c 1 | 2 => first m ρ c 2 | 3 => first m ρ c 3
  | 4 => second m ρ c 0 | 5 => second m ρ c 1 | 6 => second m ρ c 2 | 7 => second m ρ c 3
/-- What it stores of chunk `i`. -/
def result (c : Dev nD) (i : Fin 4) : Vec F S1x64x512 .bf16 :=
  stored (inputs m ρ c) i (first m ρ (p0 c) i) (second m ρ (p1 c) i)

/-! ## The schedule -/

/-- Receive slot `j` of device `c`, its contents unknown. -/
def anyR (c : Dev nD) (j : Fin 8) : sProp 𝕄 := iprop(∃ X, owns (c : Thread nD τ) (rM j) fullShare X)
/-- Send slot `j` of device `c`, its contents unknown. -/
def anyS (c : Dev nD) (j : Fin 8) : sProp 𝕄 := iprop(∃ X, owns (c : Thread nD τ) (sM j) fullShare X)

/-- What the partner's ready signal hands over. -/
def barPay (c : Dev nD) (b : Bool) : sProp 𝕄 :=
  match b with
  | false => iprop(anyR (p0 c) 0 ∗ anyR (p0 c) 1 ∗ anyR (p0 c) 2 ∗ anyR (p0 c) 3)
  | true => iprop(anyR (p1 c) 4 ∗ anyR (p1 c) 5 ∗ anyR (p1 c) 6 ∗ anyR (p1 c) 7)
/-- What an arrival hands over: the receive slot at what the partner sent. -/
def recvPay (c : Dev nD) (j : Fin 8) : sProp 𝕄 := owns (c : Thread nD τ) (rM j) fullShare (sent m ρ (peer j c) j)
/-- What a completed send hands over: the send slot at what was sent. -/
def sendPay (c : Dev nD) (j : Fin 8) : sProp 𝕄 := owns (c : Thread nD τ) (sM j) fullShare (sent m ρ c j)

/-- The one round of each cell. -/
def sched : Rounds.Schedule (GSem nD τ sig) Bool 𝕄 where
  duties g r := if r = 0 ∧ g.1.2 = .tc then
      match kind g.2 with | some (.inl _) => Finset.univ | some (.inr _) => {false} | none => ∅
    else ∅
  unitless _ := False
  amount g _ _ := match kind g.2 with | some (.inl _) => 1 | _ => N
  payload g _ d := match kind g.2 with
    | some (.inl _) => barPay g.1.1 d
    | some (.inr (.inl j)) => sendPay m ρ g.1.1 j
    | some (.inr (.inr j)) => recvPay m ρ g.1.1 j
    | none => iprop(emp)
  amount_pos g _ _ _ := by
    split
    · exact Nat.one_pos
    · exact N_pos

/-- The payloads may be kept in an invariant. -/
instance sched_payload_storable (g : GSem nD τ sig) (r : ℕ) (d : Bool) :
    BI.Storable (upEmb : UEmb _ 𝕄) ((sched (F := F) m ρ).payload g r d) := by
  dsimp only [sched]
  split
  · cases d <;> (unfold barPay anyR; dsimp only; infer_instance)
  · unfold sendPay; infer_instance
  · unfold recvPay; infer_instance
  · infer_instance

section Sched
variable (c : Dev nD) (j : Fin 8)

/-- A barrier cell has two duties. -/
theorem duties_bar : (sched (F := F) m ρ).duties (barCell c) 0 = Finset.univ := by
  dsimp only [sched]; rw [if_pos ⟨rfl, rfl⟩, kind_bar]
/-- A send cell has one duty. -/
theorem duties_send : (sched (F := F) m ρ).duties (sendCell c j) 0 = {false} := by
  dsimp only [sched]; rw [if_pos ⟨rfl, rfl⟩, kind_send]
/-- A receive cell has one duty. -/
theorem duties_recv : (sched (F := F) m ρ).duties (recvCell c j) 0 = {false} := by
  dsimp only [sched]; rw [if_pos ⟨rfl, rfl⟩, kind_recv]
/-- No cell has a duty in a later round. -/
theorem duties_later (g : GSem nD τ sig) : ∀ r, 1 ≤ r → (sched (F := F) m ρ).duties g r = ∅ :=
  fun r hr => by dsimp only [sched]; exact if_neg fun h => by omega

/-- A duty of a barrier cell is of one unit. -/
theorem amount_bar (d : Bool) : (sched (F := F) m ρ).amount (barCell c) 0 d = 1 := by dsimp only [sched]; rw [kind_bar]
/-- A duty of a send cell is of a slot's credit. -/
theorem amount_send (d : Bool) : (sched (F := F) m ρ).amount (sendCell c j) 0 d = N := by dsimp only [sched]; rw [kind_send]
/-- A duty of a receive cell is of a slot's credit. -/
theorem amount_recv (d : Bool) : (sched (F := F) m ρ).amount (recvCell c j) 0 d = N := by dsimp only [sched]; rw [kind_recv]

/-- A barrier cell expects two units. -/
theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
/-- A send cell expects a slot's credit. -/
theorem expect_send : (sched (F := F) m ρ).expect (sendCell c j) 0 = N := by
  unfold Schedule.expect Schedule.amountOf; rw [duties_send, Finset.sum_singleton, amount_send]
/-- A receive cell expects a slot's credit. -/
theorem expect_recv : (sched (F := F) m ρ).expect (recvCell c j) 0 = N := by
  unfold Schedule.expect Schedule.amountOf; rw [duties_recv, Finset.sum_singleton, amount_recv]

/-- The payload of a barrier cell is a partner's ready signal. -/
theorem payload_bar (d : Bool) : (sched (F := F) m ρ).payload (barCell c) 0 d = barPay c d := by dsimp only [sched]; rw [kind_bar]
/-- The payload of a send cell is the send slot. -/
theorem payload_send (d : Bool) : (sched (F := F) m ρ).payload (sendCell c j) 0 d = sendPay m ρ c j := by dsimp only [sched]; rw [kind_send]
/-- The payload of a receive cell is the filled receive slot. -/
theorem payload_recv (d : Bool) : (sched (F := F) m ρ).payload (recvCell c j) 0 d = recvPay m ρ c j := by dsimp only [sched]; rw [kind_recv]

/-- What a wait for a cell's whole round gives. -/
theorem rest_bar : bigSep ((sched (F := F) m ρ).duties (barCell c) 0 \ ∅) (fun d => (sched (F := F) m ρ).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
/-- The payloads of all duties of a send cell are its one payload. -/
theorem rest_send : bigSep ((sched (F := F) m ρ).duties (sendCell c j) 0 \ ∅) (fun d => (sched (F := F) m ρ).payload (sendCell c j) 0 d) = sendPay m ρ c j := by
  rw [Finset.sdiff_empty, duties_send, bigSep_singleton, payload_send]
/-- The payloads of all duties of a receive cell are its one payload. -/
theorem rest_recv : bigSep ((sched (F := F) m ρ).duties (recvCell c j) 0 \ ∅) (fun d => (sched (F := F) m ρ).payload (recvCell c j) 0 d) = recvPay m ρ c j := by
  rw [Finset.sdiff_empty, duties_recv, bigSep_singleton, payload_recv]

end Sched

/-! ## What each device owes, and the levels -/

/-- What device `c` owes while the transfers `l` are still to make: to each one's receive cell the credit of a slot. -/
def owing (c : Dev nD) : List (Fin 8) → CellTallies nD τ sig Unit
  | [] => 0
  | j :: l => owing c l + tallyAt (recvCell (peer j c) j) () N
/-- After its first signal it owes `p1 c`'s barrier a unit and all transfers; before it, `p0 c`'s barrier too. -/
def O₁ (c : Dev nD) : CellTallies nD τ sig Unit := owing c [0, 1, 2, 3, 4, 5, 6, 7] + tallyAt (barCell (partner true c)) () 1
/-- What device `c` owes at launch. -/
def O₀ (c : Dev nD) : CellTallies nD τ sig Unit := O₁ c + tallyAt (barCell (partner false c)) () 1

/-- Levels are given to the TensorCores' semaphores alone. -/
def L (g : GSem nD τ sig) : Finset Unit := if g.1.2 = .tc then {()} else ∅
/-- Barrier cells at 1, receive cells at 2 (first exchange) and 3 (second), the rest at 0. -/
def lv (g : GSem nD τ sig) (_ : Unit) : ℕ := match kind g.2 with
  | some (.inl _) => 1
  | some (.inr (.inr j)) => if late j then 3 else 2
  | _ => 0

/-- No other thread's semaphore has a level. -/
theorem L_of_ne (g : GSem nD τ sig) (h : g.1.2 ≠ .tc) : L g = ∅ := if_neg h
/-- Each semaphore of a TensorCore has a level. -/
theorem L_tc (c : Dev nD) (sm : SemLoc sig) : L ((c : Thread nD τ), sm) = {()} := if_pos rfl
/-- A barrier cell has level 1. -/
theorem lv_bar (c : Dev nD) (u : Unit) : lv (barCell c) u = 1 := by dsimp only [lv]; rw [kind_bar]
/-- A receive cell has level 2 in the first exchange and 3 in the second. -/
theorem lv_recv (c : Dev nD) (j : Fin 8) (u : Unit) : lv (recvCell c j) u = if late j then 3 else 2 := by dsimp only [lv]; rw [kind_recv]

/-- Where the transfers `l` owe anything, it is to the receive cell of one of them. -/
theorem owing_pos {c : Dev nD} {l : List (Fin 8)} {g : GSem nD τ sig} {u : Unit} (h : 0 < owing c l g u) : ∃ j ∈ l, g = recvCell (peer j c) j := by
  induction l with
  | nil => exact absurd h (Nat.lt_irrefl 0)
  | cons j l ih =>
    unfold owing at h
    rw [Pi.add_apply, Finsupp.add_apply, tallyAt_apply] at h
    by_cases hj : g = recvCell (peer j c) j ∧ u = ()
    · exact ⟨j, List.mem_cons_self, hj.1⟩
    · rw [if_neg hj, Nat.add_zero] at h
      obtain ⟨i, hi, e⟩ := ih h
      exact ⟨i, List.mem_cons_of_mem _ hi, e⟩

/-- At launch a device owes receive cells and barrier cells only. -/
theorem O₀_pos {c : Dev nD} {g : GSem nD τ sig} {u : Unit} (h : 0 < O₀ c g u) :
    (∃ d j, g = recvCell d j) ∨ ∃ d, g = barCell d := by
  unfold O₀ O₁ at h
  rw [Pi.add_apply, Finsupp.add_apply, Pi.add_apply, Finsupp.add_apply, tallyAt_apply, tallyAt_apply] at h
  by_cases h1 : g = barCell (partner false c) ∧ u = ()
  · exact .inr ⟨_, h1.1⟩
  by_cases h2 : g = barCell (partner true c) ∧ u = ()
  · exact .inr ⟨_, h2.1⟩
  rw [if_neg h1, if_neg h2, Nat.add_zero] at h
  obtain ⟨j, -, e⟩ := owing_pos h
  exact .inl ⟨_, j, e⟩

/-- Waiting on a cell at level `n` is allowed while the transfers owed all end in cells above `n`. -/
theorem mayWait_owing (c : Dev nD) (sm : SemLoc sig) (n : ℕ) (hn : lv ((c : Thread nD τ), sm) () = n) (l : List (Fin 8))
    (hl : ∀ j ∈ l, n < if late j then 3 else 2) : (levAts L lv : sProp 𝕄) ⊢ MayWait (c : Thread nD τ) sm () (owing c l) :=
  MayOwe.of_cut (L := L) (lev := lv) n (fun p hp => by rw [Finset.mem_singleton.mp hp, L_tc]; exact Finset.mem_singleton_self _)
    (fun g u hg => by obtain ⟨j, -, rfl⟩ := owing_pos hg; exact Finset.mem_singleton_self _)
    (fun p hp => by rw [Finset.mem_singleton.mp hp]; exact hn.le)
    (fun g u hg => by obtain ⟨j, hj, rfl⟩ := owing_pos hg; rw [lv_recv]; exact hl j hj)

/-- The staging copies wait below everything a device owes. -/
theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, j, rfl⟩ | ⟨d, rfl⟩ <;> exact Finset.mem_singleton_self _)
      (fun p hp => by rw [Finset.mem_singleton.mp hp]; dsimp only [lv]; rw [hq])
      (fun g u hg => by
        rcases O₀_pos hg with ⟨d, j, rfl⟩ | ⟨d, rfl⟩
        · rw [lv_recv]; split <;> decide
        · rw [lv_bar]; decide)
  · rw [MayWait_zero]; iintro -; iempintro

end Cert.KernelProof

end
-- ==== Proof.Steps.lean ====
/-
# One rule per kind of step of the kernel's body

The body repeats five kinds of step over the eight transfers: read a slot, overwrite a send slot, start transfer
`j`, wait for its arrival, wait for its departure. Each rule here is stated once, at a symbolic device and
a symbolic transfer. The result buffer's four stores assemble into one function of the stored chunks.
-/
module

public import proofs.«01_k».proof.Proof.Wire
public import Idealize.ShloMosaic.Lib.ValueIdxCore

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body has no loop with a variant. -/
abbrev 𝒱₀ : Variants := Variants.none

/-- The verification condition of the rest `k` of device `c`'s body. -/
abbrev wpc {α : Type} (c : Dev nD) (k : Prog (TpuEff nD τ sig (Elt F) Λ₀ .tc) α) (Q : α → sProp 𝕄) : sProp 𝕄 :=
  wp frame (wpE (defs₀ (F := F)) 𝒱₀ (c : Thread nD τ) none) Set.univ k Q

/-! ## The cells' invariants and marks -/

/-- All cells' invariants, under the names they were allocated at, and the mark that each is at round 0. -/
def records (K : Dev nD × Cell → ℕ) : sProp 𝕄 :=
  iprop((bigSep Finset.univ fun ck : Dev nD × Cell => cellInv EX (sched m ρ) (K ck) (kcell ck))
    ∗ bigSep Finset.univ fun ck : Dev nD × Cell => reached EX (kcell ck) 0)

/-- The records may be used any number of times. -/
instance records_persistent (K : Dev nD × Cell → ℕ) : BI.Persistent (records m ρ K) := by unfold records; infer_instance

/-- The records hold each cell's invariant. -/
theorem inv_at (K : Dev nD × Cell → ℕ) (c : Dev nD) (k : Cell) : records m ρ K ⊢ cellInv EX (sched m ρ) (K (c, k)) ((c : Thread nD τ), csem k) :=
  sep_elim_left.trans (bigSep_elim (Φ := fun ck : Dev nD × Cell => (cellInv EX (sched m ρ) (K ck) (kcell ck) : sProp 𝕄)) (Finset.mem_univ (c, k)))
/-- The records hold that each cell has reached round 0. -/
theorem mark_at (K : Dev nD × Cell → ℕ) (c : Dev nD) (k : Cell) : records m ρ K ⊢ reached EX ((c : Thread nD τ), csem k) 0 :=
  sep_elim_right.trans (bigSep_elim (Φ := fun ck : Dev nD × Cell => (reached EX (kcell ck) 0 : sProp 𝕄)) (Finset.mem_univ (c, k)))

/-- What a device owes, the waits it has made left open. -/
def owesX (c : Dev nD) (O : CellTallies nD τ sig Unit) : sProp 𝕄 := iprop(∃ W, owes (c : Thread nD τ) O W)

/-! ## Slots -/

section Slots
variable (c : Dev nD) (j : Fin 8)

/-- Reading receive slot `j` gives its contents. -/
theorem load_recv {α : Type} {Q : α → sProp 𝕄} (X : Vec F S1x1x64x512 .bf16) {hl : rBuf.view.LoadsAt (slotR j).toLoadRect}
    {k : Vec F S1x1x64x512 .bf16 → Prog (TpuEff nD τ sig (Elt F) Λ₀ .tc) α} :
    (owns (c : Thread nD τ) (rM j) fullShare X : sProp 𝕄)
      ⊢ iprop((owns (c : Thread nD τ) (rM j) fullShare X -∗ wpc c (k X) Q) -∗ wpc c (.op (.load rBuf (slotR j).toLoadRect hl) k) Q) := by
  unfold owns
  iintro ⟨%f, %hf, H⟩ Hk
  subst hf
  iapply (wp_load_rect 𝒱₀ (c : Thread nD τ) none Set.univ (m := rBuf) (r := slotR j) (S := (rM j).view.set) (f := f) subset_rfl) $$ H
  iintro H
  iapply Hk
  iexists f
  isplitr; · ipureintro; rfl
  iexact H

/-- Reading send slot `j` gives something. -/
theorem load_send {α : Type} {Q : α → sProp 𝕄} {hl : sBuf.view.LoadsAt (slotR j).toLoadRect}
    {k : Vec F S1x1x64x512 .bf16 → Prog (TpuEff nD τ sig (Elt F) Λ₀ .tc) α} :
    (anyS c j : sProp 𝕄)
      ⊢ iprop((∀ v, anyS c j -∗ wpc c (k v) Q) -∗ wpc c (.op (.load sBuf (slotR j).toLoadRect hl) k) Q) := by
  unfold anyS owns
  iintro ⟨%X, %f, %hf, H⟩ Hk
  iapply (wp_load_rect 𝒱₀ (c : Thread nD τ) none Set.univ (m := sBuf) (r := slotR j) (S := (sM j).view.set) (f := f) subset_rfl) $$ H
  iintro H
  iapply Hk
  iexists X, f
  isplitr; · ipureintro; exact hf
  iexact H

/-- Overwriting send slot `j`. -/
theorem store_send {α : Type} {Q : α → sProp 𝕄} (w : Vec F S1x1x64x512 .bf16) {hx : (sBuf.access (slotR j)).Stores Finset.univ} {hm : (Finset.univ : Finset (slotR j).shape.Idx) = Finset.univ ∨ ∀ a, (slotR j).stride a = 1}
    {k : PUnit → Prog (TpuEff nD τ sig (Elt F) Λ₀ .tc) α} :
    (anyS c j : sProp 𝕄)
      ⊢ iprop((owns (c : Thread nD τ) (sM j) fullShare w -∗ wpc c (k ⟨⟩) Q) -∗ wpc c (.op (.store sBuf (slotR j) w Finset.univ hx hm) k) Q) := by
  unfold anyS owns
  iintro ⟨%X, %f, %hf, H⟩ Hk
  iapply (wp_store 𝒱₀ (c : Thread nD τ) none Set.univ (m := sBuf) (r := slotR j) (Mk := Finset.univ) (S := (sM j).view.set) (f := f) subset_rfl) $$ H
  iintro H
  iapply Hk
  iexists _
  isplitr
  rotate_left
  · iexact H
  · ipureintro
    exact View.read_write_univ (v := (sM j).view) f w

/-- A send slot with the unit axes dropped has the elements of the slot. -/
theorem sQ_set : (sQ j).view.set = (sM j).view.set := View.set_reshape _ _
/-- A receive slot with the unit axes dropped has the elements of the slot. -/
theorem rQ_set : (rQ j).view.set = (rM j).view.set := View.set_reshape _ _
/-- What is read off a send slot and written to a receive slot is the send slot's contents. -/
theorem arrives (fs : (sM j).view.ty.Contents (Elt F)) (fd : (rM j).view.ty.Contents (Elt F)) :
    (rM j).view.read (Elt F) ((rQ j).view.write (Elt F) fd ((sQ j).view.read (Elt F) fs) Finset.univ) = (sM j).view.read (Elt F) fs := by
  refine (congrArg ((rM j).view.read (Elt F)) (View.write_reshape_univ (rM j).view _ fd _)).trans ?_
  refine (View.read_write_univ (v := (rM j).view) fd _).trans ?_
  funext x
  exact congrArg ((sM j).view.read (Elt F) fs) (Equiv.apply_symm_apply _ x)

/-- The library's rule for a transfer, at transfer `j` of device `c`. -/
theorem send_raw (K : Dev nD × Cell → ℕ) (l : List (Fin 8)) (n : Dev nD) (hn : n = peer j c)
    {hsc : (rQ j : Memref sig (Dev.tc n : Thread nD τ).2.kind .vmem S64x512 .bf16).view.ref.isScScratch = false}
    {hsrc : (sQ j).view.WordExact} {hdst : (rQ j).view.WordExact}
    {hsem : DmaTarget.Typed .vmem (.dma (rS j)) (.remote (Dev.tc n : Thread nD τ) (rQ j) (.dma (sS j)) hsc)}
    {α : Type} {Q : α → sProp 𝕄} {k : PUnit → Prog (TpuEff nD τ sig (Elt F) Λ₀ .tc) α} (W : Waits sig Unit)
    (fs : Buf (Elt F) ((sQ j).view.loc (c : Thread nD τ))) (fd : Buf (Elt F) ((rQ j).view.loc (peer j c : Thread nD τ)))
    (hfs : (sM j).view.read (Elt F) fs = sent m ρ c j) :
    iprop(cellInv EX (sched m ρ) (K (c, .inr (.inl j))) (sendCell c j) ∗ cellInv EX (sched m ρ) (K (peer j c, .inr (.inr j))) (recvCell (peer j c) j)
        ∗ ((sQ j).view.loc (c : Thread nD τ) ↦[(sQ j).view.set]{fullShare} fs) ∗ ((rQ j).view.loc (peer j c : Thread nD τ) ↦[(rQ j).view.set]{fullShare} fd)
        ∗ owes (c : Thread nD τ) (owing c (j :: l)) W
        ∗ dutyTok EX (sendCell c j) 0 false ∗ reached EX (sendCell c j) 0
        ∗ dutyTok EX (recvCell (peer j c) j) 0 false ∗ reached EX (recvCell (peer j c) j) 0)
      ⊢ iprop(((cred (tallyAt (sendCell c j) () N) ∗ owes (c : Thread nD τ) (owing c l) W) -∗ wpc c (k ⟨⟩) Q)
          -∗ wpc c (.op (.enqueueDma (sQ j) (.remote (Dev.tc n : Thread nD τ) (rQ j) (.dma (sS j)) hsc) (.dma (rS j)) hsrc hdst hsem) k) Q) := by
  subst hn
  refine Rounds.wp_send_pointsTo 𝒱₀ EX (sched m ρ) (c : Thread nD τ) none (κ₁ := K (c, .inr (.inl j))) (κ₂ := K (peer j c, .inr (.inr j)))
    (r₁ := 0) (r₂ := 0) (d₁ := false) (d₂ := false) (fs := fs) (fd := fd)
    (by rw [duties_send]; exact Finset.mem_singleton_self _) (by rw [duties_recv]; exact Finset.mem_singleton_self _)
    () () N (sem := .dma (rS j)) (sS := .dma (sS j)) (credit_r j) (amount_send m ρ c j false) (amount_recv m ρ (peer j c) j false) (owing c l) rfl (W := W) ?_ ?_
  · rw [payload_send]
    unfold sendPay owns
    iintro H; iexists fs
    isplitr; · ipureintro; exact hfs
    rw [sQ_set]; iexact H
  · rw [payload_recv]
    unfold recvPay owns
    rw [peer_peer]
    iintro H
    iexists _
    isplitr
    rotate_left
    · rw [rQ_set]; iexact H
    · ipureintro
      exact (arrives j fs fd).trans hfs

/-- Starting transfer `j`: the send slot and the partner's receive slot go in, the transfer is owed no more, and the
    credit of its departure is the device's. -/
theorem send_step (K : Dev nD × Cell → ℕ) (l : List (Fin 8)) (n : Dev nD) (hn : n = peer j c)
    {hsc : (rQ j : Memref sig (Dev.tc n : Thread nD τ).2.kind .vmem S64x512 .bf16).view.ref.isScScratch = false}
    {hsrc : (sQ j).view.WordExact} {hdst : (rQ j).view.WordExact}
    {hsem : DmaTarget.Typed .vmem (.dma (rS j)) (.remote (Dev.tc n : Thread nD τ) (rQ j) (.dma (sS j)) hsc)}
    {α : Type} {Q : α → sProp 𝕄} {k : PUnit → Prog (TpuEff nD τ sig (Elt F) Λ₀ .tc) α} :
    iprop(records m ρ K ∗ owns (c : Thread nD τ) (sM j) fullShare (sent m ρ c j) ∗ anyR (peer j c) j ∗ owesX c (owing c (j :: l))
        ∗ dutyTok EX (sendCell c j) 0 false ∗ dutyTok EX (recvCell (peer j c) j) 0 false)
      ⊢ iprop(((cred (tallyAt (sendCell c j) () N) ∗ owesX c (owing c l)) -∗ wpc c (k ⟨⟩) Q)
          -∗ wpc c (.op (.enqueueDma (sQ j) (.remote (Dev.tc n : Thread nD τ) (rQ j) (.dma (sS j)) hsc) (.dma (rS j)) hsrc hdst hsem) k) Q) := by
  unfold anyR owns owesX
  iintro ⟨#HR, ⟨%fs, %hfs, Hs⟩, ⟨%X, %fd, -, Hd⟩, ⟨%W, HO⟩, Hts, Htr⟩ Hk
  iapply (send_raw m ρ c j K l n hn W fs fd hfs) $$ [Hs Hd HO Hts Htr]
  · isplitr; · iapply (inv_at m ρ K c (.inr (.inl j))); iexact HR
    isplitr; · iapply (inv_at m ρ K (peer j c) (.inr (.inr j))); iexact HR
    isplitl [Hs]; · rw [sQ_set]; iexact Hs
    isplitl [Hd]; · rw [rQ_set]; iexact Hd
    isplitl [HO]; · iexact HO
    isplitl [Hts]; · iexact Hts
    isplitr; · iapply (mark_at m ρ K c (.inr (.inl j))); iexact HR
    isplitl [Htr]; · iexact Htr
    iapply (mark_at m ρ K (peer j c) (.inr (.inr j))); iexact HR
  iintro ⟨Hc, HO⟩
  iapply Hk
  isplitl [Hc]; · iexact Hc
  iexists W; iexact HO

/-- Waiting for the arrival of transfer `j`: the receive slot, holding what the partner sent; the cell is done with. -/
theorem recv_wait (K : Dev nD × Cell → ℕ) (l : List (Fin 8)) (hl : ∀ i ∈ l, (if late j then 3 else 2) < if late i then 3 else 2)
    {hsrc : (sQ j).view.WordExact} {hdst : (rQ j).view.WordExact}
    {α : Type} {Q : α → sProp 𝕄} {k : PUnit → Prog (TpuEff nD τ sig (Elt F) Λ₀ .tc) α} :
    iprop(records m ρ K ∗ levAts L lv ∗ cred (tallyAt (recvCell c j) () N) ∗ owesX c (owing c l) ∗ atPos EX (recvCell c j) 0 ∅ 0)
      ⊢ iprop(((owesX c (owing c l) ∗ owns (c : Thread nD τ) (rM j) fullShare (sent m ρ (peer j c) j) ∗ semVal (recvCell c j) 0) -∗ wpc c (k ⟨⟩) Q)
          -∗ wpc c (.op (.waitDma2 (rS j) (sQ j) (rQ j) hsrc hdst) k) Q) := by
  unfold owesX
  iintro ⟨#HR, #Hlev, Hc, ⟨%W, HO⟩, Hat⟩ Hk
  iapply (Rounds.wp_wait_rest_token 𝒱₀ EX (sched m ρ) (c : Thread nD τ) none (κ := K (c, .inr (.inr j)))
      (wpE_waitDma2_eq 𝒱₀ (c : Thread nD τ) none Set.univ) (Set.mem_univ _) () (O := owing c l) (W := W) (R := 0) (m := 0) (T := ∅)
      (by rw [Nat.zero_add, credit_r, expect_recv])) $$ [Hc HO Hat]
  · isplitr; · iapply (inv_at m ρ K c (.inr (.inr j))); iexact HR
    isplitl [Hc]; · rw [credit_r]; iexact Hc
    isplitl [HO]; · iexact HO
    isplitr; · iapply (mayWait_owing c (.dma (rS j)) _ (lv_recv c j ()) l hl); iexact Hlev
    iexact Hat
  iintro ⟨HO, Hat, -, Hpay⟩
  ihave Hp := (Entails.of_eq (rest_recv m ρ c j)) $$ Hpay
  imod (Rounds.cell_close EX (sched m ρ) (Set.mem_univ (K (c, .inr (.inr j)))) (fun h => h) (R := 0 + 1) (duties_later m ρ (recvCell c j))) $$ [Hat] with Hz
  · isplitr; · iapply (inv_at m ρ K c (.inr (.inr j))); iexact HR
    iexact Hat
  iapply Hk
  isplitl [HO]; · iexists _; iexact HO
  isplitl [Hp]; · unfold recvPay; iexact Hp
  iexact Hz

/-- Waiting for the departure of transfer `j`, nothing owed any more: the send slot; the cell is done with. -/
theorem send_wait (K : Dev nD × Cell → ℕ) {hsrc : (rQ j).view.WordExact} {hdst : (sQ j).view.WordExact}
    {α : Type} {Q : α → sProp 𝕄} {k : PUnit → Prog (TpuEff nD τ sig (Elt F) Λ₀ .tc) α} :
    iprop(records m ρ K ∗ cred (tallyAt (sendCell c j) () N) ∗ owesX c (owing c []) ∗ atPos EX (sendCell c j) 0 ∅ 0)
      ⊢ iprop(((owesX c (owing c []) ∗ anyS c j ∗ semVal (sendCell c j) 0) -∗ wpc c (k ⟨⟩) Q)
          -∗ wpc c (.op (.waitDma2 (sS j) (rQ j) (sQ j) hsrc hdst) k) Q) := by
  unfold owesX
  iintro ⟨#HR, Hc, ⟨%W, HO⟩, Hat⟩ Hk
  iapply (Rounds.wp_wait_rest_token 𝒱₀ EX (sched m ρ) (c : Thread nD τ) none (κ := K (c, .inr (.inl j)))
      (wpE_waitDma2_eq 𝒱₀ (c : Thread nD τ) none Set.univ) (Set.mem_univ _) () (O := owing c []) (W := W) (R := 0) (m := 0) (T := ∅)
      (by rw [Nat.zero_add, credit_s, expect_send])) $$ [Hc HO Hat]
  · isplitr; · iapply (inv_at m ρ K c (.inr (.inl j))); iexact HR
    isplitl [Hc]; · rw [credit_s]; iexact Hc
    isplitl [HO]; · iexact HO
    isplitr; · unfold owing; rw [MayWait_zero]; iempintro
    iexact Hat
  iintro ⟨HO, Hat, -, Hpay⟩
  ihave Hp := (Entails.of_eq (rest_send m ρ c j)) $$ Hpay
  imod (Rounds.cell_close EX (sched m ρ) (Set.mem_univ (K (c, .inr (.inl j)))) (fun h => h) (R := 0 + 1) (duties_later m ρ (sendCell c j))) $$ [Hat] with Hz
  · isplitr; · iapply (inv_at m ρ K c (.inr (.inl j))); iexact HR
    iexact Hat
  iapply Hk
  isplitl [HO]; · iexists _; iexact HO
  isplitl [Hp]; · unfold anyS sendPay; iexists _; iexact Hp
  iexact Hz

end Slots

/-! ## The barrier -/

/-- What device `c` hands over with its ready signal to the partner of exchange `b`: its own receive slots of that
    exchange. -/
def mine (c : Dev nD) (b : Bool) : sProp 𝕄 :=
  match b with
  | false => iprop(anyR c 0 ∗ anyR c 1 ∗ anyR c 2 ∗ anyR c 3)
  | true => iprop(anyR c 4 ∗ anyR c 5 ∗ anyR c 6 ∗ anyR c 7)
/-- A partner's ready signal hands over that partner's own slots. -/
theorem mine_eq (c : Dev nD) (b : Bool) : (barPay (partner b c) b : sProp 𝕄) = mine c b := by
  cases b
  · show iprop(anyR (p0 (p0 c)) 0 ∗ anyR (p0 (p0 c)) 1 ∗ anyR (p0 (p0 c)) 2 ∗ anyR (p0 (p0 c)) 3) = _; rw [p0_p0]; rfl
  · show iprop(anyR (p1 (p1 c)) 4 ∗ anyR (p1 (p1 c)) 5 ∗ anyR (p1 (p1 c)) 6 ∗ anyR (p1 (p1 c)) 7) = _; rw [p1_p1]; rfl

/-- Signalling the partner of exchange `b`. -/
theorem signal_step (K : Dev nD × Cell → ℕ) (c : Dev nD) (b : Bool) (O : CellTallies nD τ sig Unit) (n : Dev nD) (hn : n = partner b c)
    {α : Type} {Q : α → sProp 𝕄} {k : PUnit → Prog (TpuEff nD τ sig (Elt F) Λ₀ .tc) α} :
    iprop(records m ρ K ∗ owesX c (O + tallyAt (barCell (partner b c)) () 1) ∗ dutyTok EX (barCell (partner b c)) 0 b ∗ mine c b)
      ⊢ iprop((owesX c O -∗ wpc c (k ⟨⟩) Q) -∗ wpc c (.op (.semSignal (Dev.tc n : Thread nD τ) barS ((1#32).toNat)) k) Q) := by
  subst hn
  unfold owesX
  iintro ⟨#HR, ⟨%W, HO⟩, Ht, Hp⟩ Hk
  iapply (Rounds.wp_signal 𝒱₀ EX (sched m ρ) (c : Thread nD τ) none (dst := (partner b c : Thread nD τ)) (κ := K (partner b c, .inl ()))
      (d := b) (by rw [duties_bar]; exact Finset.mem_univ _) ((amount_bar m ρ (partner b c) b).trans (by decide)) () O rfl) $$ [HO Ht Hp]
  · isplitr; · iapply (inv_at m ρ K (partner b c) (.inl ())); iexact HR
    isplitl [HO]; · iexact HO
    isplitl [Ht]; · iexact Ht
    isplitl [Hp]; · rw [payload_bar, mine_eq]; iexact Hp
    iapply (mark_at m ρ K (partner b c) (.inl ())); iexact HR
  iintro HO
  iapply Hk
  iexists W; iexact HO

/-- Waiting for both partners: their receive slots; the cell is done with. -/
theorem bar_wait (K : Dev nD × Cell → ℕ) (c : Dev nD) (l : List (Fin 8))
    {α : Type} {Q : α → sProp 𝕄} {k : PUnit → Prog (TpuEff nD τ sig (Elt F) Λ₀ .tc) α} :
    iprop(records m ρ K ∗ levAts L lv ∗ cred (tallyAt (barCell c) () 2) ∗ owesX c (owing c l) ∗ atPos EX (barCell c) 0 ∅ 0)
      ⊢ iprop(((owesX c (owing c l) ∗ barPay c false ∗ barPay c true ∗ semVal (barCell c) 0) -∗ wpc c (k ⟨⟩) Q)
          -∗ wpc c (.op (.semWait barS ((2#32).toNat)) k) Q) := by
  unfold owesX
  iintro ⟨#HR, #Hlev, Hc, ⟨%W, HO⟩, Hat⟩ Hk
  iapply (Rounds.wp_wait_rest_token 𝒱₀ EX (sched m ρ) (c : Thread nD τ) none (κ := K (c, .inl ()))
      (wpE_semWait_eq 𝒱₀ (c : Thread nD τ) none Set.univ) (Set.mem_univ _) () (O := owing c l) (W := W) (R := 0) (m := 0) (T := ∅)
      (by rw [expect_bar]; decide)) $$ [Hc HO Hat]
  · isplitr; · iapply (inv_at m ρ K c (.inl ())); iexact HR
    isplitl [Hc]; · iexact Hc
    isplitl [HO]; · iexact HO
    isplitr; · iapply (mayWait_owing c (.reg barS) 1 (lv_bar c ()) l (fun i _ => by split <;> decide)); iexact Hlev
    iexact Hat
  iintro ⟨HO, Hat, -, Hpay⟩
  ihave Hp := (Entails.of_eq (rest_bar m ρ c)) $$ Hpay
  imod (Rounds.cell_close EX (sched m ρ) (Set.mem_univ (K (c, .inl ()))) (fun h => h) (R := 0 + 1) (duties_later m ρ (barCell c))) $$ [Hat] with Hz
  · isplitr; · iapply (inv_at m ρ K c (.inl ())); iexact HR
    iexact Hat
  icases Hp with ⟨H0, H1⟩
  iapply Hk
  isplitl [HO]; · iexists _; iexact HO
  isplitl [H0]; · iexact H0
  isplitl [H1]; · iexact H1
  iexact Hz

/-! ## The result buffer -/

/-- Each chunk's rows lie inside the result. -/
theorem chunk_inb (i : Fin 4) : ∀ a, (![i.val / 2, 64 * (i.val % 2), 0] : Fin 3 → Nat) a + S1x64x512.size a ≤ S2x128x512.size a := by revert i; decide
/-- The rows of the result chunk `i` is stored in. -/
abbrev chunkR (i : Fin 4) : Rect S2x128x512 := Rect.unit (s := S2x128x512) ![i.val / 2, 64 * (i.val % 2), 0] S1x64x512.size (chunk_inb i)
/-- The staging buffer of the result. -/
abbrev oM : Memref sig .tc .vmem S2x128x512 .bf16 := Memref.whole cc0_stg5_0

/-- The result whose chunk `i` is `R i`: row `r` of batch `b` lies in chunk `2 b + r / 64`. -/
def assemble (R : Fin 4 → Vec F S1x64x512 .bf16) : Vec F S2x128x512 .bf16 := fun y =>
  R ⟨2 * (y 0).val + (y 1).val / 64, by have h0 : (y 0).val < 2 := (y 0).isLt; have h1 : (y 1).val < 128 := (y 1).isLt; omega⟩
    (ValueIdx.ix3 (n0 := 1) (n1 := 64) (n2 := 512) 0 ⟨(y 1).val % 64, Nat.mod_lt _ (by decide)⟩ (y 2))

/-- A store of chunk `i` changes its rows only. -/
theorem chunk_write (f : Vec F S2x128x512 .bf16) (R : Fin 4 → Vec F S1x64x512 .bf16) (i : Fin 4) :
    (oM.access (chunkR i)).write (Elt F) f (R i) Finset.univ
      = fun y => if 2 * (y 0).val + (y 1).val / 64 = i.val then assemble R y else f y := by
  funext y
  have h0 : (y 0).val < 2 := (y 0).isLt
  have h1 : (y 1).val < 128 := (y 1).isLt
  have h2 : (y 2).val < 512 := (y 2).isLt
  have hi := i.isLt
  by_cases h : 2 * (y 0).val + (y 1).val / 64 = i.val
  · rw [if_pos h]
    have e : y = (oM.access (chunkR i)).emb (ValueIdx.ix3 (n0 := 1) (n1 := 64) (n2 := 512) 0 ⟨(y 1).val % 64, Nat.mod_lt _ (by decide)⟩ (y 2)) := by
      funext a
      match a with
      | ⟨0, _⟩ => apply Fin.ext; show (y 0).val = i.val / 2 + 1 * 0; omega
      | ⟨1, _⟩ => apply Fin.ext; show (y 1).val = 64 * (i.val % 2) + 1 * ((y 1).val % 64); omega
      | ⟨2, _⟩ => apply Fin.ext; show (y 2).val = 0 + 1 * (y 2).val; omega
    unfold assemble
    rw [show (⟨2 * (y 0).val + (y 1).val / 64, by omega⟩ : Fin 4) = i from Fin.ext h]
    conv_lhs => rw [e]
    exact View.write_emb_of_mem _ _ (Finset.mem_univ _)
  · rw [if_neg h]
    refine View.write_of_not_mem _ _ _ fun hm => h ?_
    rw [View.setOn_univ, View.set_slice_whole, Rect.mem_set_unit] at hm
    have a0 := hm 0
    have a1 := hm 1
    change i.val / 2 ≤ (y 0).val ∧ (y 0).val < i.val / 2 + 1 at a0
    change 64 * (i.val % 2) ≤ (y 1).val ∧ (y 1).val < 64 * (i.val % 2) + 64 at a1
    omega

/-- The four stores assemble the result, whatever the buffer held. -/
theorem chunk_writes (f : Vec F S2x128x512 .bf16) (R : Fin 4 → Vec F S1x64x512 .bf16) :
    (oM.access (chunkR 3)).write (Elt F) ((oM.access (chunkR 2)).write (Elt F) ((oM.access (chunkR 1)).write (Elt F)
      ((oM.access (chunkR 0)).write (Elt F) f (R 0) Finset.univ) (R 1) Finset.univ) (R 2) Finset.univ) (R 3) Finset.univ = assemble R := by
  rw [chunk_write f R 0, chunk_write _ R 1, chunk_write _ R 2, chunk_write _ R 3]
  funext y
  have h0 : (y 0).val < 2 := (y 0).isLt
  have h1 : (y 1).val < 128 := (y 1).isLt
  have hk : 2 * (y 0).val + (y 1).val / 64 = 3 ∨ 2 * (y 0).val + (y 1).val / 64 = 2 ∨ 2 * (y 0).val + (y 1).val / 64 = 1 ∨ 2 * (y 0).val + (y 1).val / 64 = 0 := by omega
  show (if 2 * (y 0).val + (y 1).val / 64 = 3 then assemble R y else if 2 * (y 0).val + (y 1).val / 64 = 2 then assemble R y
    else if 2 * (y 0).val + (y 1).val / 64 = 1 then assemble R y else if 2 * (y 0).val + (y 1).val / 64 = 0 then assemble R y else f y) = assemble R y
  rcases hk with h | h | h | h <;> simp only [h] <;> simp

end Cert.KernelProof

end
-- ==== Proof.Body.lean ====
/-
# The kernel's body on one device

The steps of `Steps` are grouped by transfer: `front c j` is what device `c` holds for transfer `j` before it is made,
`sentOff c j` after, `landed c j` once the partner's transfer has arrived, `done c j` once its own has departed too. The
body is then executed once, from the first effect to the last, at a symbolic device `c`.
-/
module

public import proofs.«01_k».proof.Proof.Steps

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The four states of a transfer -/

/-- Transfer `j` before it starts: its send slot, both cells at round 0, the two duties it pays, the credit of what
    will arrive. -/
def front (c : Dev nD) (j : Fin 8) : sProp 𝕄 :=
  iprop(anyS c j ∗ atPos EX (sendCell c j) 0 ∅ 0 ∗ atPos EX (recvCell c j) 0 ∅ 0
    ∗ dutyTok EX (sendCell c j) 0 false ∗ dutyTok EX (recvCell (peer j c) j) 0 false ∗ cred (tallyAt (recvCell c j) () N))
/-- Transfer `j` under way: both cells at round 0, and the credits of the two waits to come. -/
def sentOff (c : Dev nD) (j : Fin 8) : sProp 𝕄 :=
  iprop(atPos EX (sendCell c j) 0 ∅ 0 ∗ atPos EX (recvCell c j) 0 ∅ 0 ∗ cred (tallyAt (recvCell c j) () N) ∗ cred (tallyAt (sendCell c j) () N))
/-- The arrival of transfer `j` waited for: its receive slot is back, the receive cell done with, the send cell still
    to wait on. -/
def landed (c : Dev nD) (j : Fin 8) : sProp 𝕄 :=
  iprop(atPos EX (sendCell c j) 0 ∅ 0 ∗ cred (tallyAt (sendCell c j) () N) ∗ anyR c j ∗ semVal (recvCell c j) 0)
/-- Transfer `j` over: both slots back and both cells at zero. -/
def done (c : Dev nD) (j : Fin 8) : sProp 𝕄 :=
  iprop(anyR c j ∗ anyS c j ∗ semVal (sendCell c j) 0 ∗ semVal (recvCell c j) 0)

section Moves
variable (c : Dev nD) (j : Fin 8) (K : Dev nD × Cell → ℕ)

/-- Filling send slot `j` and starting transfer `j`. -/
theorem push_step (l : List (Fin 8)) (n : Dev nD) (hn : n = peer j c) (w : Vec F S1x1x64x512 .bf16) (hw : w = sent m ρ c j)
    {hl : sBuf.view.LoadsAt (slotR j).toLoadRect} {hx : (sBuf.access (slotR j)).Stores Finset.univ}
    {hm : (Finset.univ : Finset (slotR j).shape.Idx) = Finset.univ ∨ ∀ a, (slotR j).stride a = 1}
    {hsc : (rQ j : Memref sig (Dev.tc n : Thread nD τ).2.kind .vmem S64x512 .bf16).view.ref.isScScratch = false}
    {hsrc : (sQ j).view.WordExact} {hdst : (rQ j).view.WordExact}
    {hsem : DmaTarget.Typed .vmem (.dma (rS j)) (.remote (Dev.tc n : Thread nD τ) (rQ j) (.dma (sS j)) hsc)}
    {α : Type} {Q : α → sProp 𝕄} {k : PUnit → Prog (TpuEff nD τ sig (Elt F) Λ₀ .tc) α} :
    iprop(records m ρ K ∗ anyR (peer j c) j ∗ owesX c (owing c (j :: l)) ∗ front c j)
      ⊢ iprop(((owesX c (owing c l) ∗ sentOff c j) -∗ wpc c (k ⟨⟩) Q)
          -∗ wpc c (.op (.load sBuf (slotR j).toLoadRect hl) fun _ => .op (.store sBuf (slotR j) w Finset.univ hx hm) fun _ =>
              .op (.enqueueDma (sQ j) (.remote (Dev.tc n : Thread nD τ) (rQ j) (.dma (sS j)) hsc) (.dma (rS j)) hsrc hdst hsem) k) Q) := by
  subst hw
  unfold front sentOff
  iintro ⟨#HR, Hd, HO, Hs, Has, Har, Hts, Htr, Hcr⟩ Hk
  iapply (load_send c j) $$ Hs
  iintro %v Hs
  iapply (store_send c j (sent m ρ c j)) $$ Hs
  iintro Hs
  iapply (send_step m ρ c j K l n hn) $$ [Hd HO Hs Hts Htr]
  · isplitr; · iexact HR
    isplitl [Hs]; · iexact Hs
    isplitl [Hd]; · iexact Hd
    isplitl [HO]; · iexact HO
    isplitl [Hts] <;> iassumption
  iintro ⟨Hcs, HO⟩
  iapply Hk
  isplitl [HO]; · iexact HO
  isplitl [Has]; · iexact Has
  isplitl [Har]; · iexact Har
  isplitl [Hcr] <;> iassumption

/-- Waiting for the arrival of transfer `j` and reading what it brought. -/
theorem pull_step (l : List (Fin 8)) (hlt : ∀ i ∈ l, (if late j then 3 else 2) < if late i then 3 else 2)
    {hsrc : (sQ j).view.WordExact} {hdst : (rQ j).view.WordExact} {hl : rBuf.view.LoadsAt (slotR j).toLoadRect}
    {α : Type} {Q : α → sProp 𝕄} {k : Vec F S1x1x64x512 .bf16 → Prog (TpuEff nD τ sig (Elt F) Λ₀ .tc) α} :
    iprop(records m ρ K ∗ levAts L lv ∗ owesX c (owing c l) ∗ sentOff c j)
      ⊢ iprop(((owesX c (owing c l) ∗ landed c j) -∗ wpc c (k (sent m ρ (peer j c) j)) Q)
          -∗ wpc c (.op (.waitDma2 (rS j) (sQ j) (rQ j) hsrc hdst) fun _ => .op (.load rBuf (slotR j).toLoadRect hl) k) Q) := by
  unfold sentOff landed
  iintro ⟨#HR, #Hlev, HO, Has, Har, Hcr, Hcs⟩ Hk
  iapply (recv_wait m ρ c j K l hlt) $$ [HO Har Hcr]
  · isplitr; · iexact HR
    isplitr; · iexact Hlev
    isplitl [Hcr]; · iexact Hcr
    isplitl [HO] <;> iassumption
  iintro ⟨HO, Hr, Hz⟩
  iapply (load_recv c j (sent m ρ (peer j c) j)) $$ Hr
  iintro Hr
  iapply Hk
  isplitl [HO]; · iexact HO
  isplitl [Has]; · iexact Has
  isplitl [Hcs]; · iexact Hcs
  isplitl [Hr]; · unfold anyR; iexists _; iexact Hr
  iexact Hz

/-- Waiting for the departure of transfer `j`. -/
theorem drain_step {hsrc : (rQ j).view.WordExact} {hdst : (sQ j).view.WordExact}
    {α : Type} {Q : α → sProp 𝕄} {k : PUnit → Prog (TpuEff nD τ sig (Elt F) Λ₀ .tc) α} :
    iprop(records m ρ K ∗ owesX c (owing c []) ∗ landed c j)
      ⊢ iprop(((owesX c (owing c []) ∗ done c j) -∗ wpc c (k ⟨⟩) Q)
          -∗ wpc c (.op (.waitDma2 (sS j) (rQ j) (sQ j) hsrc hdst) k) Q) := by
  unfold landed done
  iintro ⟨#HR, HO, Has, Hcs, Hr, Hzr⟩ Hk
  iapply (send_wait m ρ c j K) $$ [HO Has Hcs]
  · isplitr; · iexact HR
    isplitl [Hcs]; · iexact Hcs
    isplitl [HO] <;> iassumption
  iintro ⟨HO, Hs, Hz⟩
  iapply Hk
  isplitl [HO]; · iexact HO
  isplitl [Hr]; · iexact Hr
  isplitl [Hs]; · iexact Hs
  isplitl [Hz] <;> iassumption

end Moves

/-- Storing a chunk of the result. -/
theorem out_step (c : Dev nD) (r : Rect S2x128x512) (w : r.shape.Idx → Elt F .bf16) (f : Vec F S2x128x512 .bf16)
    {hl : oM.view.LoadsAt r.toLoadRect} {hx : (oM.access r).Stores Finset.univ}
    {hm : (Finset.univ : Finset r.shape.Idx) = Finset.univ ∨ ∀ a, r.stride a = 1}
    {α : Type} {Q : α → sProp 𝕄} {k : PUnit → Prog (TpuEff nD τ sig (Elt F) Λ₀ .tc) α} :
    (((c : Thread nD τ).loc cc0_stg5_0) ↦{fullShare} f : sProp 𝕄)
      ⊢ iprop(((((c : Thread nD τ).loc cc0_stg5_0) ↦{fullShare} ((oM.access r).write (Elt F) f w Finset.univ)) -∗ wpc c (k ⟨⟩) Q)
          -∗ wpc c (.op (.load oM r.toLoadRect hl) fun _ => .op (.store oM r w Finset.univ hx hm) k) Q) := by
  iintro H Hk
  iapply (wp_load 𝒱₀ (c : Thread nD τ) none Set.univ (m := oM) (Finset.subset_univ _)) $$ H; iintro H
  iapply (wp_store 𝒱₀ (c : Thread nD τ) none Set.univ (m := oM) (r := r) (Mk := Finset.univ) (Finset.subset_univ _)) $$ H; iintro H
  iapply Hk; iexact H

/-! ## The pipeline's proof data -/

/-- What is left of the two slot buffers outside the slots. -/
def slotsRest (c : Dev nD) : sProp 𝕄 :=
  iprop((∃ f, ((c : Thread nD τ).loc cc0_scratch0) ↦[Ring.restOf fun j : Fin 8 => (sM j).view.set]{fullShare} f)
    ∗ ∃ f, ((c : Thread nD τ).loc cc0_scratch1) ↦[Ring.restOf fun j : Fin 8 => (rM j).view.set]{fullShare} f)

/-- What device `c` starts from beside the slots: the records, its barrier credit, position and tokens, its transfers. -/
def ghost (K : Dev nD × Cell → ℕ) (c : Dev nD) : sProp 𝕄 :=
  iprop(records m ρ K ∗ atPos EX (barCell c) 0 ∅ 0
    ∗ dutyTok EX (barCell (partner false c)) 0 false ∗ dutyTok EX (barCell (partner true c)) 0 true
    ∗ bigSep Finset.univ fun j : Fin 8 => iprop(atPos EX (sendCell c j) 0 ∅ 0 ∗ atPos EX (recvCell c j) 0 ∅ 0
        ∗ dutyTok EX (sendCell c j) 0 false ∗ dutyTok EX (recvCell (peer j c) j) 0 false))
/-- What device `c` starts from beside the slots, with the credits of its waits and the levels. -/
def start (c : Dev nD) : sProp 𝕄 :=
  iprop((∃ K, ghost m ρ K c) ∗ cred (tallyAt (barCell c) () 2) ∗ (bigSep Finset.univ fun j : Fin 8 => cred (tallyAt (recvCell c j) () N)) ∗ levAts L lv)

/-- The state of device `c` before the body: the starting state, and all slots with unknown contents. -/
def Φ₀ (c : Dev nD) : sProp 𝕄 :=
  iprop(start m ρ c ∗ (bigSep Finset.univ fun j : Fin 8 => anyS c j) ∗ (bigSep Finset.univ fun j : Fin 8 => anyR c j) ∗ slotsRest c)
/-- The state of device `c` after the body: all transfers over, the barrier at zero. -/
def Φ₁ (c : Dev nD) : sProp 𝕄 := iprop((bigSep Finset.univ fun j : Fin 8 => done c j) ∗ semVal (barCell c) 0 ∗ slotsRest c)

/-- The result of device `c`. -/
def outAt (c : Dev nD) : (cc0_stg5_0 : Ref sig .tc).ty.Contents (Elt F) := assemble (result m ρ c)

/-- The one call of each device: its arrays, what the body leaves in each staging buffer, and the states around the
    body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inputs m ρ c).x
    | ⟨1, _⟩ => (inputs m ρ c).wq
    | ⟨2, _⟩ => (inputs m ρ c).wo
    | ⟨3, _⟩ => (inputs m ρ c).k
    | ⟨4, _⟩ => (inputs m ρ c).v
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- Owning a whole buffer at a value is owning its elements at contents equal to that value. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A family over the eight transfers, written out. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The body -/

/-- The body at its buffers and semaphores. -/
abbrev theBody : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3

/-- A staging buffer at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Three zero offsets are the zero function. -/
theorem hz3 : (![0, 0, 0] : Fin 3 → Nat) = fun _ => 0 := funext fun a => by fin_cases a <;> rfl
/-- Two zero offsets are the zero function. -/
theorem hz2 : (![0, 0] : Fin 2 → Nat) = fun _ => 0 := funext fun a => by fin_cases a <;> rfl

/-- Loading the whole buffer of the activations gives its contents. -/
theorem read_x (f : Vec F S2x128x512 .bf16) : (Memref.whole cc0_stg0_0).view.readAt (Elt F) (Rect.unit (s := S2x128x512) ![0, 0, 0] S2x128x512.size inb_S2x128x512_S2x128x512_0_0_0).toLoadRect f = f :=
  Memref.readAt_unit_zero (Elt F) cc0_stg0_0 hz3 _ f
/-- Loading the whole buffer of the query weights gives its contents. -/
theorem read_wq (f : Vec F S512x512 .bf16) : (Memref.whole cc0_stg1_0).view.readAt (Elt F) (Rect.unit (s := S512x512) ![0, 0] S512x512.size inb_S512x512_S512x512_0_0).toLoadRect f = f :=
  Memref.readAt_unit_zero (Elt F) cc0_stg1_0 hz2 _ f
/-- Loading the whole buffer of the output weights gives its contents. -/
theorem read_wo (f : Vec F S512x512 .bf16) : (Memref.whole cc0_stg2_0).view.readAt (Elt F) (Rect.unit (s := S512x512) ![0, 0] S512x512.size inb_S512x512_S512x512_0_0).toLoadRect f = f :=
  Memref.readAt_unit_zero (Elt F) cc0_stg2_0 hz2 _ f

/-- What the body starts from, the slots and cells one by one. -/
def bodyPre (K : Dev nD × Cell → ℕ) (c : Dev nD) (g5 : Vec F S2x128x512 .bf16) : sProp 𝕄 :=
  iprop(owesX c (O₀ c) ∗ records m ρ K ∗ levAts L lv ∗ atPos EX (barCell c) 0 ∅ 0
    ∗ dutyTok EX (barCell (partner false c)) 0 false ∗ dutyTok EX (barCell (partner true c)) 0 true
    ∗ cred (tallyAt (barCell c) () 2) ∗ mine c false ∗ mine c true
    ∗ front c 0 ∗ front c 1 ∗ front c 2 ∗ front c 3 ∗ front c 4 ∗ front c 5 ∗ front c 6 ∗ front c 7
    ∗ (((c : Thread nD τ).loc cc0_stg0_0) ↦{fullShare} (inputs m ρ c).x) ∗ (((c : Thread nD τ).loc cc0_stg1_0) ↦{fullShare} (inputs m ρ c).wq)
    ∗ (((c : Thread nD τ).loc cc0_stg2_0) ↦{fullShare} (inputs m ρ c).wo) ∗ (((c : Thread nD τ).loc cc0_stg3_0) ↦{fullShare} (inputs m ρ c).k)
    ∗ (((c : Thread nD τ).loc cc0_stg4_0) ↦{fullShare} (inputs m ρ c).v) ∗ (((c : Thread nD τ).loc cc0_stg5_0) ↦{fullShare} g5))
/-- What it ends with. -/
def bodyPost (c : Dev nD) : sProp 𝕄 :=
  iprop(done c 0 ∗ done c 1 ∗ done c 2 ∗ done c 3 ∗ done c 4 ∗ done c 5 ∗ done c 6 ∗ done c 7 ∗ semVal (barCell c) 0
    ∗ owesX c (owing c [])
    ∗ (((c : Thread nD τ).loc cc0_stg0_0) ↦{fullShare} (inputs m ρ c).x) ∗ (((c : Thread nD τ).loc cc0_stg1_0) ↦{fullShare} (inputs m ρ c).wq)
    ∗ (((c : Thread nD τ).loc cc0_stg2_0) ↦{fullShare} (inputs m ρ c).wo) ∗ (((c : Thread nD τ).loc cc0_stg3_0) ↦{fullShare} (inputs m ρ c).k)
    ∗ (((c : Thread nD τ).loc cc0_stg4_0) ↦{fullShare} (inputs m ρ c).v) ∗ (((c : Thread nD τ).loc cc0_stg5_0) ↦{fullShare} outAt m ρ c))

set_option maxHeartbeats 4000000 in
/-- The body, executed from its first effect to its last. -/
theorem sound_body (K : Dev nD × Cell → ℕ) (c : Dev nD) (g5 : Vec F S2x128x512 .bf16) (Kt : PUnit → sProp 𝕄) :
    iprop(bodyPre m ρ K c g5 ∗ (bodyPost m ρ c -∗ Kt ⟨⟩)) ⊢ wpc c (theBody (F := F)) Kt := by
  unfold theBody
  simp only [cc0_body_eq_skeleton, cc0_body_skel, k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel, k0_part7_eq_skeleton, k0_part7_skel,
    k0_part8_eq_skeleton, k0_part8_skel, k0_part9_eq_skeleton, k0_part9_skel, k0_part10_eq_skeleton, k0_part10_skel, k0_part11_eq_skeleton, k0_part11_skel,
    k0_part12_eq_skeleton, k0_part12_skel, k0_part13_eq_skeleton, k0_part13_skel, k0_part14_eq_skeleton, k0_part14_skel, k0_part15_eq_skeleton, k0_part15_skel,
    k0_part16_eq_skeleton, k0_part16_skel, k0_part17_eq_skeleton, k0_part17_skel, k0_part18_eq_skeleton, k0_part18_skel, k0_part19_eq_skeleton, k0_part19_skel,
    k0_part20_eq_skeleton, k0_part20_skel,
    semSignalWord, semWaitWord, Prog.lift, Prog.bind_op, Prog.bind_ret, Prog.pure_eq_ret, wp_deviceId]
  unfold bodyPre
  iintro ⟨⟨HO, #HR, #Hlev, Hat, Ht0, Ht1, Hc, Hm0, Hm1, H0, H1, H2, H3, H4, H5, H6, H7, Hx, Hwq, Hwo, Hkk, Hv, Hout⟩, Hk⟩
  -- both partners are told; the loads of `x` and of the query projection
  iapply (signal_step m ρ K c false (O₁ c) _ (dev1_eq c)) $$ [HO Ht0 Hm0]
  · isplitr; · iexact HR
    isplitl [HO]; · iexact HO
    isplitl [Ht0] <;> iassumption
  iintro HO
  iapply (signal_step m ρ K c true (owing c [0, 1, 2, 3, 4, 5, 6, 7]) _ (dev2_eq c)) $$ [HO Ht1 Hm1]
  · isplitr; · iexact HR
    isplitl [HO]; · iexact HO
    isplitl [Ht1] <;> iassumption
  iintro HO
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hwq; iintro Hwq
  rw [read_wq]
  iapply (wp_load 𝒱₀ (c : Thread nD τ) none Set.univ (m := Memref.whole cc0_stg2_0) (Finset.subset_univ _)) $$ Hwo; iintro Hwo
  rw [read_wo]
  iapply (wp_load 𝒱₀ (c : Thread nD τ) none Set.univ (m := Memref.whole cc0_stg3_0) (Finset.subset_univ _)) $$ Hkk; iintro Hkk
  iapply (wp_load 𝒱₀ (c : Thread nD τ) none Set.univ (m := Memref.whole cc0_stg4_0) (Finset.subset_univ _)) $$ Hv; iintro Hv
  -- both partners are ready
  iapply (bar_wait m ρ K c [0, 1, 2, 3, 4, 5, 6, 7]) $$ [HO Hc Hat]
  · isplitr; · iexact HR
    isplitr; · iexact Hlev
    isplitl [Hc]; · iexact Hc
    isplitl [HO] <;> iassumption
  iintro ⟨HO, Hp0, Hp1, Hzb⟩
  unfold barPay
  icases Hp0 with ⟨N0, N1, N2, N3⟩
  icases Hp1 with ⟨N4, N5, N6, N7⟩
  -- the first exchange goes out, batch 1 computed in between
  iapply (push_step m ρ c 0 K [1, 2, 3, 4, 5, 6, 7] _ (dev3_eq c) _ rfl) $$ [HO N0 H0]
  · isplitr; · iexact HR
    isplitl [N0]; · iexact N0
    isplitl [HO] <;> iassumption
  iintro ⟨HO, H0⟩
  iapply (push_step m ρ c 1 K [2, 3, 4, 5, 6, 7] _ (dev4_eq c) _ rfl) $$ [HO N1 H1]
  · isplitr; · iexact HR
    isplitl [N1]; · iexact N1
    isplitl [HO] <;> iassumption
  iintro ⟨HO, H1⟩
  iapply (wp_load 𝒱₀ (c : Thread nD τ) none Set.univ (m := Memref.whole cc0_stg3_0) (Finset.subset_univ _)) $$ Hkk; iintro Hkk
  iapply (wp_load 𝒱₀ (c : Thread nD τ) none Set.univ (m := Memref.whole cc0_stg4_0) (Finset.subset_univ _)) $$ Hv; iintro Hv
  iapply (push_step m ρ c 2 K [3, 4, 5, 6, 7] _ (dev5_eq c) _ rfl) $$ [HO N2 H2]
  · isplitr; · iexact HR
    isplitl [N2]; · iexact N2
    isplitl [HO] <;> iassumption
  iintro ⟨HO, H2⟩
  iapply (push_step m ρ c 3 K [4, 5, 6, 7] _ (dev6_eq c) _ rfl) $$ [HO N3 H3]
  · isplitr; · iexact HR
    isplitl [N3]; · iexact N3
    isplitl [HO] <;> iassumption
  iintro ⟨HO, H3⟩
  -- each arrival of the first exchange, and its sum sent in the second
  iapply (pull_step m ρ c 0 K [4, 5, 6, 7] (by decide)) $$ [HO H0]
  · isplitr; · iexact HR
    isplitr; · iexact Hlev
    isplitl [HO] <;> iassumption
  iintro ⟨HO, H0⟩
  iapply (push_step m ρ c 4 K [5, 6, 7] _ (dev7_eq c) _ rfl) $$ [HO N4 H4]
  · isplitr; · iexact HR
    isplitl [N4]; · iexact N4
    isplitl [HO] <;> iassumption
  iintro ⟨HO, H4⟩
  iapply (pull_step m ρ c 1 K [5, 6, 7] (by decide)) $$ [HO H1]
  · isplitr; · iexact HR
    isplitr; · iexact Hlev
    isplitl [HO] <;> iassumption
  iintro ⟨HO, H1⟩
  iapply (push_step m ρ c 5 K [6, 7] _ (dev8_eq c) _ rfl) $$ [HO N5 H5]
  · isplitr; · iexact HR
    isplitl [N5]; · iexact N5
    isplitl [HO] <;> iassumption
  iintro ⟨HO, H5⟩
  iapply (pull_step m ρ c 2 K [6, 7] (by decide)) $$ [HO H2]
  · isplitr; · iexact HR
    isplitr; · iexact Hlev
    isplitl [HO] <;> iassumption
  iintro ⟨HO, H2⟩
  iapply (push_step m ρ c 6 K [7] _ (dev9_eq c) _ rfl) $$ [HO N6 H6]
  · isplitr; · iexact HR
    isplitl [N6]; · iexact N6
    isplitl [HO] <;> iassumption
  iintro ⟨HO, H6⟩
  iapply (pull_step m ρ c 3 K [7] (by decide)) $$ [HO H3]
  · isplitr; · iexact HR
    isplitr; · iexact Hlev
    isplitl [HO] <;> iassumption
  iintro ⟨HO, H3⟩
  iapply (push_step m ρ c 7 K [] _ (dev10_eq c) _ rfl) $$ [HO N7 H7]
  · isplitr; · iexact HR
    isplitl [N7]; · iexact N7
    isplitl [HO] <;> iassumption
  iintro ⟨HO, H7⟩
  -- the arrivals of the second exchange, and the result's chunks
  iapply (pull_step m ρ c 4 K [] (by decide)) $$ [HO H4]
  · isplitr; · iexact HR
    isplitr; · iexact Hlev
    isplitl [HO] <;> iassumption
  iintro ⟨HO, H4⟩
  iapply (out_step c (chunkR 0) (result m ρ c 0) g5) $$ Hout; iintro Hout
  iapply (pull_step m ρ c 5 K [] (by decide)) $$ [HO H5]
  · isplitr; · iexact HR
    isplitr; · iexact Hlev
    isplitl [HO] <;> iassumption
  iintro ⟨HO, H5⟩
  iapply (out_step c (chunkR 1) (result m ρ c 1) _) $$ Hout; iintro Hout
  iapply (pull_step m ρ c 6 K [] (by decide)) $$ [HO H6]
  · isplitr; · iexact HR
    isplitr; · iexact Hlev
    isplitl [HO] <;> iassumption
  iintro ⟨HO, H6⟩
  iapply (out_step c (chunkR 2) (result m ρ c 2) _) $$ Hout; iintro Hout
  iapply (pull_step m ρ c 7 K [] (by decide)) $$ [HO H7]
  · isplitr; · iexact HR
    isplitr; · iexact Hlev
    isplitl [HO] <;> iassumption
  iintro ⟨HO, H7⟩
  iapply (out_step c (chunkR 3) (result m ρ c 3) _) $$ Hout; iintro Hout
  rw [chunk_writes g5 (result m ρ c)]
  -- all departures
  iapply (drain_step m ρ c 0 K) $$ [HO H0]
  · isplitr; · iexact HR
    isplitl [HO] <;> iassumption
  iintro ⟨HO, H0⟩
  iapply (drain_step m ρ c 1 K) $$ [HO H1]
  · isplitr; · iexact HR
    isplitl [HO] <;> iassumption
  iintro ⟨HO, H1⟩
  iapply (drain_step m ρ c 2 K) $$ [HO H2]
  · isplitr; · iexact HR
    isplitl [HO] <;> iassumption
  iintro ⟨HO, H2⟩
  iapply (drain_step m ρ c 3 K) $$ [HO H3]
  · isplitr; · iexact HR
    isplitl [HO] <;> iassumption
  iintro ⟨HO, H3⟩
  iapply (drain_step m ρ c 4 K) $$ [HO H4]
  · isplitr; · iexact HR
    isplitl [HO] <;> iassumption
  iintro ⟨HO, H4⟩
  iapply (drain_step m ρ c 5 K) $$ [HO H5]
  · isplitr; · iexact HR
    isplitl [HO] <;> iassumption
  iintro ⟨HO, H5⟩
  iapply (drain_step m ρ c 6 K) $$ [HO H6]
  · isplitr; · iexact HR
    isplitl [HO] <;> iassumption
  iintro ⟨HO, H6⟩
  iapply (drain_step m ρ c 7 K) $$ [HO H7]
  · isplitr; · iexact HR
    isplitl [HO] <;> iassumption
  iintro ⟨HO, H7⟩
  unfold wpc; rw [wp_ret]; imodintro
  iapply Hk
  unfold bodyPost outAt
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hzb]; · iexact Hzb
  isplitl [HO]; · iexact HO
  isplitl [Hx]; · iexact Hx
  isplitl [Hwq]; · iexact Hwq
  isplitl [Hwo]; · iexact Hwo
  isplitl [Hkk]; · iexact Hkk
  isplitl [Hv] <;> iassumption

/-- The pipeline's obligation on device `c`'s body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show iprop(Φ₀ m ρ c ∗ (dats m ρ 0 c).owesAt () t0_0.castSucc
      ∗ (∃ d, stg c cc0_stg0_0 ((dats m ρ 0 c).before (0 : Fin 6) t0_0 d)) ∗ (∃ d, stg c cc0_stg1_0 ((dats m ρ 0 c).before (1 : Fin 6) t0_0 d))
      ∗ (∃ d, stg c cc0_stg2_0 ((dats m ρ 0 c).before (2 : Fin 6) t0_0 d)) ∗ (∃ d, stg c cc0_stg3_0 ((dats m ρ 0 c).before (3 : Fin 6) t0_0 d))
      ∗ (∃ d, stg c cc0_stg4_0 ((dats m ρ 0 c).before (4 : Fin 6) t0_0 d)) ∗ (∃ d, stg c cc0_stg5_0 ((dats m ρ 0 c).before (5 : Fin 6) t0_0 d)))
    ⊢ wpc c (theBody (F := F)) fun _ => iprop(Φ₁ c ∗ (dats m ρ 0 c).owesAt () t0_0.succ
      ∗ stg c cc0_stg0_0 (inputs m ρ c).x ∗ stg c cc0_stg1_0 (inputs m ρ c).wq ∗ stg c cc0_stg2_0 (inputs m ρ c).wo
      ∗ stg c cc0_stg3_0 (inputs m ρ c).k ∗ stg c cc0_stg4_0 (inputs m ρ c).v ∗ stg c cc0_stg5_0 (outAt m ρ c))
  have e0 : ∀ d, (dats m ρ 0 c).before (0 : Fin 6) t0_0 d = (inputs m ρ c).x := fun d => by unfold Dat.before; rw [if_pos (fetch0_0 t0_0)]; rfl
  have e1 : ∀ d, (dats m ρ 0 c).before (1 : Fin 6) t0_0 d = (inputs m ρ c).wq := fun d => by unfold Dat.before; rw [if_pos (fetch0_1 t0_0)]; rfl
  have e2 : ∀ d, (dats m ρ 0 c).before (2 : Fin 6) t0_0 d = (inputs m ρ c).wo := fun d => by unfold Dat.before; rw [if_pos (fetch0_2 t0_0)]; rfl
  have e3 : ∀ d, (dats m ρ 0 c).before (3 : Fin 6) t0_0 d = (inputs m ρ c).k := fun d => by unfold Dat.before; rw [if_pos (fetch0_3 t0_0)]; rfl
  have e4 : ∀ d, (dats m ρ 0 c).before (4 : Fin 6) t0_0 d = (inputs m ρ c).v := fun d => by unfold Dat.before; rw [if_pos (fetch0_4 t0_0)]; rfl
  simp only [e0, e1, e2, e3, e4]
  unfold Φ₀ start ghost Dat.owesAt
  simp only [bigSep_fin8]
  iintro ⟨⟨⟨⟨%K, #HR, Hat, Ht0, Ht1, ⟨a0, b0, s0, r0⟩, ⟨a1, b1, s1, r1⟩, ⟨a2, b2, s2, r2⟩, ⟨a3, b3, s3, r3⟩, ⟨a4, b4, s4, r4⟩, ⟨a5, b5, s5, r5⟩, ⟨a6, b6, s6, r6⟩, ⟨a7, b7, s7, r7⟩⟩,
      Hc, ⟨c0, c1, c2, c3, c4, c5, c6, c7⟩, #Hlev⟩, ⟨S0, S1, S2, S3, S4, S5, S6, S7⟩, ⟨R0, R1, R2, R3, R4, R5, R6, R7⟩, Hrest⟩,
    ⟨%W, %hW, HO⟩, ⟨%d0, %f0, %h0, Hx⟩, ⟨%d1, %f1, %h1, Hwq⟩, ⟨%d2, %f2, %h2, Hwo⟩, ⟨%d3, %f3, %h3, Hkk⟩, ⟨%d4, %f4, %h4, Hv⟩, ⟨%d5, %f5, %h5, Hout⟩⟩
  subst h0 h1 h2 h3 h4
  iapply (sound_body m ρ K c f5 _)
  unfold bodyPre mine front
  dsimp only
  isplitr [Hrest]
  · isplitl [HO]
    · unfold owesX; iexists W; iexact HO
    isplitl []; · iexact HR
    isplitl []; · iexact Hlev
    iframe
  · unfold bodyPost owesX Φ₁ Pipeline.owesWithin
    simp only [bigSep_fin8]
    iintro ⟨D0, D1, D2, D3, D4, D5, D6, D7, Hz, ⟨%W', HO⟩, Hx, Hwq, Hwo, Hkk, Hv, Hout⟩
    isplitl [D0 D1 D2 D3 D4 D5 D6 D7 Hz Hrest]
    · iframe
    isplitl [HO]
    · iexists W'; isplitr; · ipureintro; exact fun _ _ => Or.inl trivial
      iexact HO
    isplitl [Hx]; · iexists _; isplitr; · (ipureintro; rfl)
                    iexact Hx
    isplitl [Hwq]; · iexists _; isplitr; · (ipureintro; rfl)
                     iexact Hwq
    isplitl [Hwo]; · iexists _; isplitr; · (ipureintro; rfl)
                     iexact Hwo
    isplitl [Hkk]; · iexists _; isplitr; · (ipureintro; rfl)
                     iexact Hkk
    isplitl [Hv]; · iexists _; isplitr; · (ipureintro; rfl)
                    iexact Hv
    iexists _; isplitr; · (ipureintro; rfl)
    iexact Hout

end Cert.KernelProof

end
-- ==== Proof.Launch.lean ====
/-
# The launch, and the run on four devices

The cells' ghost state is allocated for all devices at once and dealt so that each device holds the tokens of the
duties it pays: its partners' barrier tokens, the tokens of the receive cells its transfers end in, and those of its
own send cells. With the body of `Body` this gives `run_main`.
-/
module

public import proofs.«01_k».proof.Proof.Body
public import Idealize.ShloMosaic.Lib.Pipeline.CollectiveSegs

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens as minted -/

/-- The kernel's own semaphores: its send and receive cells. -/
abbrev osem (k : Fin 8 ⊕ Fin 8) : SemLoc sig := csem (.inr k)
/-- The send and receive cells are exactly the semaphores the call owns. -/
theorem ownSemFacts : Pipeline.OwnSemFacts cfg0.spec osem := by decide +kernel

/-- Every array is held in full. -/
theorem share_eq (c : Dev nD) (w : Fin cfg0.W) : (dats m ρ 0 c).share w = fullShare := by unfold Dat.share; split <;> rfl

/-- Different cells of different devices are different. -/
theorem kcell_injective : Function.Injective (kcell : Dev nD × Cell → GSem nD τ sig) := fun a b h =>
  Prod.ext (congrArg (fun g : GSem nD τ sig => g.1.1) h) (csem_injective (congrArg Prod.snd h))
/-- All cells of all devices. -/
def allCells : Finset (GSem nD τ sig) := Finset.univ.map ⟨kcell, kcell_injective⟩

/-- The tokens of a device's own cells: two for its barrier, one for each send and each receive cell. -/
abbrev Tok : Type := Bool ⊕ (Fin 8 ⊕ Fin 8)
/-- The duty that a token stands for. -/
abbrev tokOf (ct : Dev nD × Tok) : GSem nD τ sig × ℕ × Bool := match ct.2 with
  | .inl b => (barCell ct.1, 0, b)
  | .inr k => (kcell (ct.1, .inr k), 0, false)
/-- Different tokens stand for different duties. -/
theorem tokOf_injective : Function.Injective (tokOf : Dev nD × Tok → GSem nD τ sig × ℕ × Bool) := by
  rintro ⟨c, t⟩ ⟨c', t'⟩ h
  have hc : c = c' := by
    have := congrArg (fun x : GSem nD τ sig × ℕ × Bool => x.1.1.1) h
    rcases t with t | t <;> rcases t' with t' | t' <;> exact this
  subst hc
  have hk := congrArg (fun x : GSem nD τ sig × ℕ × Bool => (kind x.1.2, x.2.2)) h
  rcases t with t | t <;> rcases t' with t' | t' <;> simp only [tokOf, kcell, kind_csem, kind_bar, Prod.mk.injEq, Option.some.injEq, reduceCtorEq, Sum.inr.injEq] at hk
  · rw [hk.2]
  · exact hk.1.elim
  · exact hk.1.elim
  · rw [hk.1]
/-- All tokens of all devices. -/
def allToks : Finset (GSem nD τ sig × ℕ × Bool) := Finset.univ.map ⟨tokOf, tokOf_injective⟩

/-- The ghost state at launch. -/
def u₀ : UU :=
  (initOf (Pipeline.cells cfgs cellOf_inj) (Pipeline.launchToks cfgs cellOf_inj), initOf allCells allToks)

/-- The duty tokens of device `c`'s own cells. -/
def toks (c : Dev nD) : sProp 𝕄 :=
  iprop(dutyTok EX (barCell c) 0 false ∗ dutyTok EX (barCell c) 0 true
    ∗ (bigSep Finset.univ fun j : Fin 8 => dutyTok EX (sendCell c j) 0 false) ∗ bigSep Finset.univ fun j : Fin 8 => dutyTok EX (recvCell c j) 0 false)
/-- The tokens of the duties that device `c` pays. -/
def payToks (c : Dev nD) : sProp 𝕄 :=
  iprop(dutyTok EX (barCell (partner false c)) 0 false ∗ dutyTok EX (barCell (partner true c)) 0 true
    ∗ (bigSep Finset.univ fun j : Fin 8 => dutyTok EX (sendCell c j) 0 false) ∗ bigSep Finset.univ fun j : Fin 8 => dutyTok EX (recvCell (peer j c) j) 0 false)

/-- What the launch deals device `c`. -/
def G (c : Dev nD) : sProp 𝕄 :=
  iprop((bigSep Finset.univ fun k : Cell => roundState EX (sched m ρ) (kcell (c, k)) 0)
    ∗ (bigSep Finset.univ fun k : Cell => iprop(atPos EX (kcell (c, k)) 0 ∅ 0 ∗ reached EX (kcell (c, k)) 0)) ∗ toks c)
/-- What allocating the invariants makes of it. -/
def G' (c : Dev nD) : sProp 𝕄 := iprop(∃ K, ghost m ρ K c)

/-- A family over the two exchanges, written out. -/
theorem bigSep_bool (Φ : Bool → sProp 𝕄) : bigSep Finset.univ Φ = iprop(Φ false ∗ Φ true) := bigSep_univ_eq_bigSepL [false, true] (by decide) (by decide) Φ

/-- A device's cells by kind. -/
theorem bigSep_cell (Φ : Cell → sProp 𝕄) : bigSep Finset.univ Φ = iprop(Φ (.inl ())
    ∗ (bigSep Finset.univ fun j : Fin 8 => Φ (.inr (.inl j))) ∗ bigSep Finset.univ fun j : Fin 8 => Φ (.inr (.inr j))) := by
  rw [BI.bigSep_univ_sum, BI.bigSep_univ_sum, bigSep_univ_eq_bigSepL [()] (by decide) (by decide)]; rfl

/-- The tokens minted for a device are those of its own cells. -/
theorem toks_of (c : Dev nD) : bigSep Finset.univ (fun t : Tok => (dutyTok EX (tokOf (c, t)).1 (tokOf (c, t)).2.1 (tokOf (c, t)).2.2 : sProp 𝕄)) ⊢ toks c := by
  rw [BI.bigSep_univ_sum, BI.bigSep_univ_sum, bigSep_bool]
  unfold toks
  show iprop((dutyTok EX (barCell c) 0 false ∗ dutyTok EX (barCell c) 0 true)
    ∗ (bigSep Finset.univ fun j : Fin 8 => dutyTok EX (sendCell c j) 0 false) ∗ bigSep Finset.univ fun j : Fin 8 => dutyTok EX (recvCell c j) 0 false) ⊢ _
  iintro ⟨⟨H1, H2⟩, H3, H4⟩
  iframe

/-- The launch element holds every cell's state and every token. -/
theorem fund_cells : BI.own (EX (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok EX x.1 x.2.1 x.2.2 : sProp 𝕄)) ⊢ bigSep Finset.univ fun c : Dev nD => toks c := by
    unfold allToks; rw [bigSep_map, bigSep_univ_prod]
    exact bigSep_mono fun c _ => toks_of c
  iintro HX
  imod (Rounds.fund EX (sched m ρ) allCells allToks) $$ HX with ⟨Hst, Hr, Hat, Htok⟩
  imodintro
  ihave Hst := (Entails.of_eq (hX fun g => roundState EX (sched m ρ) g 0)) $$ Hst
  ihave Hat := (Entails.of_eq (hX fun g => atPos EX g 0 ∅ 0)) $$ Hat
  ihave Hr := (Entails.of_eq (hX fun g => reached EX g 0)) $$ Hr
  ihave Htok := hT $$ Htok
  unfold G; simp only [bigSep_sep']
  iframe

/-! ## Allocation -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl
/-- The kernel's own semaphores are its send and receive cells. -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 8 => semVal (sendCell c j) 0) ∗ bigSep Finset.univ fun j : Fin 8 => semVal (recvCell c j) 0) := by
  unfold Pipeline.ownSems0; rw [BI.bigSep_univ_sum]; rfl

/-- All semaphores of a device at zero are all its cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [ownSems0_eq, unscopedSems0_eq, bigSep_cell]
  iintro ⟨⟨HS, HV⟩, HB⟩
  isplitl [HB]; · iexact HB
  isplitl [HS]; · iexact HS
  iexact HV

/-- From its semaphores at zero a device allocates the invariants of its cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (sched m ρ) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState EX (sched m ρ) (kcell (c, k)) 0)
      ⊢ (|={Set.univ}=> bigSep Finset.univ fun k => iprop(∃ κ : ℕ, cellInv EX (sched m ρ) κ (kcell (c, k))) : sProp 𝕄) from by
        rw [← bigSep_sep']
        exact (bigSep_mono fun k _ => (Rounds.body_intro EX (sched m ρ) (kcell (c, k))).trans inv_alloc).trans (bigSep_fupd _ _)) $$ [Hv Hst] with Hinv
  · isplitl [Hv] <;> iassumption
  imodintro
  iframe

/-- What stays with device `c`: its positions, and the tokens of the duties it pays. -/
def linear (c : Dev nD) : sProp 𝕄 :=
  iprop((bigSep Finset.univ fun k : Cell => atPos EX (kcell (c, k)) 0 ∅ 0) ∗ payToks c)

/-- The records and what stays with a device make its starting state. -/
theorem ghost_intro (K : Dev nD × Cell → ℕ) (c : Dev nD) : iprop(records m ρ K ∗ linear c) ⊢ G' m ρ c := by
  unfold linear payToks G' ghost
  rw [bigSep_cell]
  simp only [bigSep_sep']
  iintro ⟨#HR, ⟨HaB, HaS, HaV⟩, HtB0, HtB1, HtS, HtV⟩
  iexists K
  isplitl []; · iexact HR
  isplitl [HaB]; · iexact HaB
  isplitl [HtB0]; · iexact HtB0
  isplitl [HtB1]; · iexact HtB1
  isplitl [HaS]; · iexact HaS
  isplitl [HaV]; · iexact HaV
  isplitl [HtS] <;> iassumption

/-- The partner of an exchange, and a transfer together with its destination, are involutions. -/
def partnerE (b : Bool) : Dev nD ≃ Dev nD := ⟨partner b, partner b, partner_partner b, partner_partner b⟩
/-- A transfer together with its destination, as an involution. -/
def peerE : Dev nD × Fin 8 ≃ Dev nD × Fin 8 :=
  ⟨fun x => (peer x.2 x.1, x.2), fun x => (peer x.2 x.1, x.2), fun x => by simp only [peer_peer], fun x => by simp only [peer_peer]⟩

/-- The receive cells' tokens, dealt to the devices whose transfers end there. -/
theorem recv_around : (bigSep Finset.univ fun c : Dev nD => bigSep Finset.univ fun j : Fin 8 => (dutyTok EX (recvCell c j) 0 false : sProp 𝕄))
    = bigSep Finset.univ fun c : Dev nD => bigSep Finset.univ fun j : Fin 8 => dutyTok EX (recvCell (peer j c) j) 0 false := by
  rw [← bigSep_univ_prod (fun x : Dev nD × Fin 8 => (dutyTok EX (recvCell x.1 x.2) 0 false : sProp 𝕄)),
    ← bigSep_univ_prod (fun x : Dev nD × Fin 8 => (dutyTok EX (recvCell (peer x.2 x.1) x.2) 0 false : sProp 𝕄)),
    bigSep_univ_equiv peerE (fun x : Dev nD × Fin 8 => (dutyTok EX (recvCell x.1 x.2) 0 false : sProp 𝕄))]
  rfl

/-- The tokens of the devices' own cells, dealt to the devices that pay them. -/
theorem toks_around : (bigSep Finset.univ fun c : Dev nD => (toks c : sProp 𝕄)) ⊢ bigSep Finset.univ fun c : Dev nD => payToks c := by
  unfold toks payToks
  simp only [bigSep_sep']
  rw [recv_around, bigSep_univ_equiv (partnerE false) (fun c : Dev nD => (dutyTok EX (barCell c) 0 false : sProp 𝕄)),
    bigSep_univ_equiv (partnerE true) (fun c : Dev nD => (dutyTok EX (barCell c) 0 true : sProp 𝕄))]
  exact BI.Entails.refl _

/-- A persistent fact is available to every member of a family. -/
theorem bigSep_under {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' invariants gathered into one record that each of them holds. -/
theorem regroup :
    (bigSep Finset.univ fun c : Dev nD => iprop((bigSep Finset.univ fun k => iprop(∃ κ : ℕ, cellInv EX (sched m ρ) κ (kcell (c, k))))
          ∗ (bigSep Finset.univ fun k => iprop(atPos EX (kcell (c, k)) 0 ∅ 0 ∗ reached EX (kcell (c, k)) 0)) ∗ toks c) : sProp 𝕄)
      ⊢ bigSep Finset.univ (G' m ρ) := by
  simp only [bigSep_sep']
  rw [← bigSep_univ_prod (fun ck : Dev nD × Cell => iprop(∃ κ : ℕ, cellInv EX (sched m ρ) κ (kcell ck))),
    ← bigSep_univ_prod (fun ck : Dev nD × Cell => (reached EX (kcell ck) 0 : sProp 𝕄))]
  iintro ⟨HI, ⟨Hat, #HR⟩, Htok⟩
  ihave HK := (BI.bigSep_exists_pi Finset.univ (fun (ck : Dev nD × Cell) (κ : ℕ) => (cellInv EX (sched m ρ) κ (kcell ck) : sProp 𝕄))) $$ HI
  icases HK with ⟨%K, #HI⟩
  ihave Htk := (toks_around (F := F)) $$ Htok
  iapply (bigSep_under (R := records m ρ K) fun c _ => ghost_intro m ρ K c)
  isplitl []
  · unfold records; isplitl []; · iexact HI
    iexact HR
  · unfold linear; simp only [bigSep_sep']
    isplitl [Hat] <;> iassumption

/-- The allocation of all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

/-- The barrier cells of two devices are equal only if the devices are. -/
theorem bar_eq_iff {a b : Dev nD} : barCell a = barCell b ↔ a = b := ⟨fun h => congrArg (fun g : GSem nD τ sig => g.1.1) h, fun h => h ▸ rfl⟩
/-- Two receive cells are equal only on one device and of one transfer. -/
theorem recv_eq_iff {a b : Dev nD} {i j : Fin 8} : recvCell a i = recvCell b j ↔ a = b ∧ i = j :=
  ⟨fun h => ⟨congrArg (fun g : GSem nD τ sig => g.1.1) h, Sum.inr.inj (Sum.inr.inj (csem_injective (congrArg Prod.snd h : csem (.inr (.inr i)) = csem (.inr (.inr j)))))⟩,
    fun h => by rw [h.1, h.2]⟩
/-- A receive cell is no barrier cell. -/
theorem recv_ne_bar {a b : Dev nD} {j : Fin 8} : recvCell a j ≠ barCell b := fun h =>
  Sum.inr_ne_inl (csem_injective (show csem (.inr (.inr j)) = csem (.inl ()) from congrArg Prod.snd h))

/-- The transfers owe no barrier anything. -/
theorem owing_bar (d c : Dev nD) (l : List (Fin 8)) : owing d l (barCell c) () = 0 := by
  by_contra h
  obtain ⟨j, -, e⟩ := owing_pos (Nat.pos_of_ne_zero h)
  exact recv_ne_bar e.symm

/-- Being a partner goes both ways. -/
theorem partner_eq_iff (b : Bool) (c d : Dev nD) : c = partner b d ↔ d = partner b c :=
  ⟨fun h => by rw [h, partner_partner], fun h => by rw [h, partner_partner]⟩

/-- What the transfers `l` of device `d` owe a receive cell. -/
theorem owing_recv (d c : Dev nD) (j : Fin 8) (l : List (Fin 8)) : owing d l (recvCell c j) () = l.count j * if d = peer j c then N else 0 := by
  induction l with
  | nil => rw [List.count_nil, Nat.zero_mul]; rfl
  | cons i l ih =>
    unfold owing
    rw [Pi.add_apply, Finsupp.add_apply, ih, tallyAt_apply, List.count_cons, Nat.add_mul]
    congr 1
    by_cases hi : i = j
    · subst hi
      rw [beq_self_eq_true, if_pos rfl, Nat.one_mul]
      exact if_congr (by rw [recv_eq_iff]; exact ⟨fun h => (partner_eq_iff _ _ _).mp h.1.1, fun h => ⟨⟨(partner_eq_iff _ _ _).mpr h, rfl⟩, rfl⟩⟩) rfl rfl
    · rw [if_neg (fun h => hi (recv_eq_iff.mp h.1).2.symm), beq_false_of_ne hi, if_neg Bool.false_ne_true, Nat.zero_mul]

/-- What device `d` owes device `c`'s barrier cell: one unit for each exchange in which they are partners. -/
theorem owed_bar (d c : Dev nD) : O₀ d (barCell c) () = (if d = partner true c then 1 else 0) + (if d = partner false c then 1 else 0) := by
  unfold O₀ O₁
  rw [Pi.add_apply, Finsupp.add_apply, Pi.add_apply, Finsupp.add_apply, owing_bar, tallyAt_apply, tallyAt_apply, Nat.zero_add]
  congr 1 <;> exact if_congr (by rw [bar_eq_iff, partner_eq_iff]; exact ⟨fun h => h.1, fun h => ⟨h, rfl⟩⟩) rfl rfl
/-- What device `d` owes device `c`'s receive cell of transfer `j`: a slot's credit if the transfer is between them. -/
theorem owed_recv (d c : Dev nD) (j : Fin 8) : O₀ d (recvCell c j) () = if d = peer j c then N else 0 := by
  unfold O₀ O₁
  rw [Pi.add_apply, Finsupp.add_apply, Pi.add_apply, Finsupp.add_apply, tallyAt_ne_cell recv_ne_bar, tallyAt_ne_cell recv_ne_bar, owing_recv,
    show List.count j [0, 1, 2, 3, 4, 5, 6, 7] = 1 by revert j; decide, Nat.one_mul, Finsupp.zero_apply, Nat.add_zero, Nat.add_zero]

/-- Together the devices owe a barrier cell two units. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ _ fun _ => 1, Finset.sum_ite_eq' Finset.univ _ fun _ => 1, if_pos (Finset.mem_univ _), if_pos (Finset.mem_univ _)]
/-- Together the devices owe a receive cell the credit of one slot. -/
theorem launch_recv (c : Dev nD) (j : Fin 8) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ _ fun _ => N,
    if_pos (Finset.mem_univ _)]

/-- The semaphores of a device's receive cells. -/
def recvSems : Finset (SemLoc sig) := Finset.univ.map ⟨fun j : Fin 8 => csem (.inr (.inr j)), fun _ _ h => Sum.inr.inj (Sum.inr.inj (csem_injective h))⟩
/-- No receive semaphore is the barrier's. -/
theorem recvSems_subset : recvSems ⊆ Finset.univ.erase (SemLoc.reg barS) := fun s hs => by
  obtain ⟨j, -, rfl⟩ := Finset.mem_map.mp hs
  exact Finset.mem_erase.mpr ⟨fun h => Sum.inr_ne_inl (csem_injective (show csem (.inr (.inr j)) = csem (.inl ()) from h)), Finset.mem_univ _⟩

/-- So a device has at launch the credit of its barrier wait and of its eight arrivals. -/
theorem creds (c : Dev nD) :
    (Pipeline.launchCred O₀ c : sProp 𝕄) ⊢ iprop(cred (tallyAt (barCell c) () 2) ∗ bigSep Finset.univ fun j : Fin 8 => cred (tallyAt (recvCell c j) () N)) := by
  unfold Pipeline.launchCred
  rw [bigSep_univ_at _ (SemLoc.reg barS), launch_bar]
  refine sep_mono_right ((bigSep_subset recvSems_subset).trans ?_)
  unfold recvSems
  rw [bigSep_map]
  exact bigSep_mono fun j _ => Entails.of_eq (congrArg cred (launch_recv c j))

/-! ## Slots and buffers -/

/-- Slots of different transfers differ in row or in column. -/
theorem slots_apart (j i : Fin 8) (h : j ≠ i) : rowOf j ≠ rowOf i ∨ colOf j ≠ colOf i := by revert j i; decide
/-- The slots of different transfers have disjoint elements. -/
theorem slotR_disjoint (j i : Fin 8) (h : j ≠ i) : Disjoint (slotR j).set (slotR i).set := by
  rw [Finset.disjoint_left]
  intro x hx hy
  have r1 : rowOf j ≤ (x 0).val ∧ (x 0).val < rowOf j + 1 := Rect.mem_set_unit.mp hx 0
  have c1 : colOf j ≤ (x 1).val ∧ (x 1).val < colOf j + 1 := Rect.mem_set_unit.mp hx 1
  have r2 : rowOf i ≤ (x 0).val ∧ (x 0).val < rowOf i + 1 := Rect.mem_set_unit.mp hy 0
  have c2 : colOf i ≤ (x 1).val ∧ (x 1).val < colOf i + 1 := Rect.mem_set_unit.mp hy 1
  rcases slots_apart j i h with h | h <;> omega
/-- The elements of a send slot are those of its rectangle. -/
theorem sM_set (j : Fin 8) : (sM j).view.set = (slotR j).set := View.set_slice_whole _ _
/-- The elements of a receive slot are those of its rectangle. -/
theorem rM_set (j : Fin 8) : (rM j).view.set = (slotR j).set := View.set_slice_whole _ _
/-- Different send slots have disjoint elements. -/
theorem sM_disjoint (j i : Fin 8) (h : j ≠ i) : Disjoint (sM j).view.set (sM i).view.set := by rw [sM_set, sM_set]; exact slotR_disjoint j i h
/-- Different receive slots have disjoint elements. -/
theorem rM_disjoint (j i : Fin 8) (h : j ≠ i) : Disjoint (rM j).view.set (rM i).view.set := by rw [rM_set, rM_set]; exact slotR_disjoint j i h

/-- Elements at some contents are a slot at some value. -/
theorem anyS_eq (c : Dev nD) (j : Fin 8) : (anyS c j : sProp 𝕄) = iprop(∃ f, ((c : Thread nD τ).loc cc0_scratch0) ↦[(sM j).view.set]{fullShare} f) := by
  have h1 : (anyS c j : sProp 𝕄) ⊢ iprop(∃ f, ((c : Thread nD τ).loc cc0_scratch0) ↦[(sM j).view.set]{fullShare} f) := by
    unfold anyS owns; iintro ⟨%X, %f, %hf, H⟩; iexists f; iexact H
  have h2 : iprop(∃ f, ((c : Thread nD τ).loc cc0_scratch0) ↦[(sM j).view.set]{fullShare} f) ⊢ (anyS c j : sProp 𝕄) := by
    unfold anyS owns; iintro ⟨%f, H⟩; iexists _; iexists f; isplitr; · (ipureintro; rfl)
    iexact H
  exact Entails.antisymm h1 h2
/-- The same of a receive slot. -/
theorem anyR_eq (c : Dev nD) (j : Fin 8) : (anyR c j : sProp 𝕄) = iprop(∃ f, ((c : Thread nD τ).loc cc0_scratch1) ↦[(rM j).view.set]{fullShare} f) := by
  have h1 : (anyR c j : sProp 𝕄) ⊢ iprop(∃ f, ((c : Thread nD τ).loc cc0_scratch1) ↦[(rM j).view.set]{fullShare} f) := by
    unfold anyR owns; iintro ⟨%X, %f, %hf, H⟩; iexists f; iexact H
  have h2 : iprop(∃ f, ((c : Thread nD τ).loc cc0_scratch1) ↦[(rM j).view.set]{fullShare} f) ⊢ (anyR c j : sProp 𝕄) := by
    unfold anyR owns; iintro ⟨%f, H⟩; iexists _; iexists f; isplitr; · (ipureintro; rfl)
    iexact H
  exact Entails.antisymm h1 h2

/-! ## The run -/

/-- What a device is given at launch makes its starting state. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN] <;> iassumption
  · iempintro

/-- With its scratch buffers cut into slots, it is the state before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show cfg0.spec = spec0 from rfl, scopedRest0_eq]
  unfold Φ₀ slotsRest
  simp only [anyS_eq, anyR_eq]
  iintro ⟨Hs, -, H0, H1⟩
  ihave H0 := (Ring.fam_split_ex (fun j : Fin 8 => (sM j).view.set) sM_disjoint) $$ H0
  ihave H1 := (Ring.fam_split_ex (fun j : Fin 8 => (rM j).view.set) rM_disjoint) $$ H1
  icases H0 with ⟨A0, B0⟩
  icases H1 with ⟨A1, B1⟩
  isplitl [Hs]; · iexact Hs
  isplitl [A0]; · iexact A0
  isplitl [A1]; · iexact A1
  isplitl [B0] <;> iassumption

/-- The state after the body gives back the semaphores at zero and the scratch buffers whole. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show cfg0.spec = spec0 from rfl, scopedRest0_eq, ownSems0_eq, unscopedSems0_eq]
  unfold Φ₁ slotsRest done
  simp only [bigSep_sep', anyS_eq, anyR_eq]
  iintro ⟨⟨A1, A0, Zs, Zr⟩, Hz, B0, B1⟩
  ihave H0 := (Ring.fam_join (fun j : Fin 8 => (sM j).view.set) sM_disjoint ((s₀ m ρ).mem ((c : Thread nD τ).loc cc0_scratch0))) $$ [A0 B0]
  · isplitl [A0] <;> iassumption
  ihave H1 := (Ring.fam_join (fun j : Fin 8 => (rM j).view.set) rM_disjoint ((s₀ m ρ).mem ((c : Thread nD τ).loc cc0_scratch1))) $$ [A1 B1]
  · isplitl [A1] <;> iassumption
  isplitl [Hz]; · iexact Hz
  isplitl [Zs Zr]
  · isplitl [Zs] <;> iassumption
  isplitl [H0] <;> iassumption

/-- The call's own waits are allowed by the levels. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide) _ (by
      rcases t with ⟨_ | _, ht⟩
      · exact Or.inl rfl
      · exact Or.inr rfl)

/-- An array's contents when the pipeline is through. -/
def finalA (c : Dev nD) (w : Fin cfg0.W) : Buf (Elt F) ((cfg0.win w).arr.view.loc (c : Thread nD τ)) := (dats m ρ 0 c).arrAt w cfg0.N

/-- From any memory with zero counters the four devices terminate under every fair scheduling, each array at its final
    contents and every semaphore at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelProof

end
-- ==== Proof.Frames.lean ====
/-
# The frame claims

`run_main` holds for any float values, so the program at `Bits` and the program at `Ideal` — one text — both take their
frame from it. The reference has no semaphore, and its run is the generated one.
-/
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

set_option maxRecDepth 16384

noncomputable section

namespace Cert.KernelProof

open Idealize.ShloMosaic Idealize.SL.Sem Idealize.ShloMosaic.TcCoe

section Arrays

open Cert.KernelIdeal Cert.KernelIdeal.Gen

variable {F : FTy → Type} [FloatOps F] (m : (ℓ : Loc nD τ sig) → Buf (Elt F) ℓ) (ρ : Dev nD → PrngReg)

/-- Each argument array ends as it was. -/
theorem args_kept {r : PUnit × MemSt nD τ sig (Elt F)}
    (h : ∀ c : Dev nD, ∀ w : Fin cfg0.W, r.2.mem ((cfg0.win w).arr.view.loc (c : Thread nD τ)) = finalA m ρ c w) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c (0 : Fin 6)).trans ((dats (F := F) m ρ 0 c).arrAt_in (0 : Fin 6) rfl _),
    (h c (1 : Fin 6)).trans ((dats (F := F) m ρ 0 c).arrAt_in (1 : Fin 6) rfl _),
    (h c (3 : Fin 6)).trans ((dats (F := F) m ρ 0 c).arrAt_in (3 : Fin 6) rfl _),
    (h c (4 : Fin 6)).trans ((dats (F := F) m ρ 0 c).arrAt_in (4 : Fin 6) rfl _),
    (h c (2 : Fin 6)).trans ((dats (F := F) m ρ 0 c).arrAt_in (2 : Fin 6) rfl _)⟩

/-- The frame of the run, for any float values. -/
theorem frame_run : θ_run defs (onTc (τ := τ) (main (F := F))) (s₀ m ρ)
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨args_kept m ρ h.1, h.2⟩) (run_main m ρ)

end Arrays

section Text
attribute [local instance] Cert.Kernel.Gen.facts Cert.KernelIdeal.Gen.facts

/-- The kernel and the idealised kernel have one body. -/
theorem bodies_eq : Cert.Kernel.defs₀ (F := Bits) = Cert.KernelIdeal.defs₀ (F := Bits) := by
  refine congrArg Defs.onTc (funext fun l => ?_)
  rcases l with ⟨_ | n, h⟩
  · rfl
  · exact absurd h (by omega)

/-- The kernel and the idealised kernel have one table of bodies. -/
theorem tables_eq : Cert.Kernel.defs (F := Bits) = Cert.KernelIdeal.defs (F := Bits) :=
  congrArg (Pipeline.defs Cert.KernelIdeal.pcfgs) bodies_eq

end Text

/-- The kernel's frame. -/
theorem frame_kernel : Cert.quiescent_Kernel (hKernel := Cert.Kernel.Gen.facts) := fun m ρ _ =>
  Eq.mpr (congrArg (fun D => θ_run D (onTc (Cert.KernelIdeal.main (F := Bits))) (s₀ (F := Bits) m ρ) _) tables_eq)
    (frame_run (F := Bits) m ρ)

/-- The idealised kernel's frame. -/
theorem frame_kernelIdeal : Cert.quiescent_KernelIdeal (hKernelIdeal := Cert.KernelIdeal.Gen.facts) := fun m ρ _ =>
  frame_run (F := Ideal) m ρ

/-- The reference's frame. -/
theorem frame_referenceIdeal : Cert.quiescent_ReferenceIdeal (hReferenceIdeal := Cert.ReferenceIdeal.Gen.facts) := fun m ρ _ =>
  (θ_run Cert.ReferenceIdeal.defs _ _).mono (fun _ h => ⟨fun c => (h c).2, funext fun g => by
    rcases g with ⟨t, s | s⟩
    · exact s.elim0
    · exact s.elim0⟩) (Cert.ReferenceIdeal.Value.run (F := Ideal) m ρ)

end Cert.KernelProof

end
-- ==== Proof.Heads.lean ====
/-
# The kernel's attention, head by head

The body masks the query lanes of one head at a time and adds the eight heads' outputs. The printed payloads cut that
computation at other places; here it is put together again: `headTerm` is what one head adds, `prodOf` the whole product.
-/
module

public import proofs.«01_k».proof.Proof.Chunks
public import Idealize.ShloMosaic.Lib.Pointwise

@[expose] public section

set_option maxRecDepth 16384

noncomputable section

namespace Cert.KernelProof

open Cert.KernelIdeal Cert.KernelIdeal.Gen
open Idealize.ShloMosaic

section Any
variable {F : FTy → Type} [FloatOps F]

/-- The lanes of head `h`. -/
def mask (h : BitVec 32) : IVec S128x512 1 := cmpi .eq headOf (broadcast S128x512 h)

/-- The exponentials of head `h`'s scores. -/
def expScores (h : BitVec 32) (q k : FVec F S128x512 .bf16) : FVec F S128x128 .f32 :=
  exp (matmul dot_S128x512_S128x512_S128x128_1_1_0_0_n_n none (select (mask h) q (broadcast S128x512 (Scalar.ofBits .bf16 0x0000#16))) k
    (constant S128x128 .f32 0x00000000#32))

/-- The reciprocals of their row sums. -/
def recips (p : FVec F S128x128 .f32) : FVec F S128x128 .f32 :=
  broadcastTo S128x128 (divf (broadcast S128x1 (Scalar.ofBits .f32 0x3F800000#32))
    (shapeCast S128x1 (multiReduction .add [1] S128 p 0x00000000#32 reduces_S128x128_S128 (.inl rfl) rfl) shapeCasts_S128_S128x1)) broadcasts_S128x1_S128x128

/-- What head `h` adds to the attention output. -/
def headTerm (h : BitVec 32) (q k v : FVec F S128x512 .bf16) : FVec F S128x512 .f32 :=
  select (mask h)
    (matmul dot_S128x128_S128x512_S128x512_1_0_0_1_n_n none (truncf .bf16 (mulf (expScores h q k) (recips (expScores h q k))) bitsLt_bf16_f32) v
      (constant S128x512 .f32 0x00000000#32))
    (broadcast S128x512 (Scalar.ofBits .f32 0x00000000#32))

/-- The attention output of one batch: the eight heads. -/
def heads (q k v : FVec F S128x512 .bf16) : FVec F S128x512 .f32 :=
  addf (addf (addf (addf (addf (addf (addf (addf (broadcast S128x512 (Scalar.ofBits .f32 0x00000000#32)) (headTerm 0#32 q k v))
    (headTerm 1#32 q k v)) (headTerm 2#32 q k v)) (headTerm 3#32 q k v)) (headTerm 4#32 q k v)) (headTerm 5#32 q k v))
    (headTerm 6#32 q k v)) (headTerm 7#32 q k v)

/-- The device's partial product of one batch. -/
def prodOf (wo : FVec F S512x512 .bf16) (q k v : FVec F S128x512 .bf16) : FVec F S128x512 .f32 :=
  matmul dot_S128x512_S512x512_S128x512_1_0_0_1_n_n none (truncf .bf16 (heads q k v) bitsLt_bf16_f32) wo (constant S128x512 .f32 0x00000000#32)

/-- The product of batch 0 is the product of its eight heads side by side. -/
theorem prod0_eq (I : Inputs F) : prod0 I = prodOf (wo' I) (q0 I) (kk0 I) (vv0 I) := rfl
/-- The product of batch 1 is the product of its eight heads side by side. -/
theorem prod1_eq (I : Inputs F) : prod1 I = prodOf (wo' I) (q1 I) (kk1 I) (vv1 I) := rfl

end Any

/-! ## Read at a place, over the reals -/

/-- The head of lane `l` is `l / 64`. -/
theorem headOf_apply (r : Fin 128) (l : Fin 512) : headOf (ix2 r l) = BitVec.ofNat 32 (l.val / 64) := by
  have key : ∀ l : Fin 512, headOf (ix2 0 l) = BitVec.ofNat 32 (l.val / 64) := by decide +kernel
  have : headOf (ix2 r l) = headOf (ix2 0 l) := by
    unfold headOf k0_pay4 lane k0_pay2 k0_pay3
    rfl
  rw [this, key]

/-- The mask of head `h` selects the lanes `l` with `l / 64 = h`. -/
theorem select_mask (h : Fin 8) (r : Fin 128) (l : Fin 512) (x : EReal) :
    Scalar.select (mask (BitVec.ofNat 32 h.val) (ix2 r l)) x 0 = if l.val / 64 = h.val then x else 0 := by
  have hl := l.isLt
  have hh := h.isLt
  have e : mask (BitVec.ofNat 32 h.val) (ix2 r l) = if l.val / 64 = h.val then 1#1 else 0#1 := by
    unfold mask
    pointwise
    rw [headOf_apply]
    by_cases hq : l.val / 64 = h.val
    · rw [if_pos hq, hq]
      exact IntOp.cmpi_eq_self _
    · rw [if_neg hq]
      have hne : BitVec.ofNat 32 (l.val / 64) ≠ BitVec.ofNat 32 h.val := fun hb => hq (by
        have := congrArg BitVec.toNat hb
        simp only [BitVec.toNat_ofNat] at this
        omega)
      simp [IntOp.cmpi, beq_eq_false_iff_ne.2 hne]
  rw [e]
  split
  · exact ValueIdx.select_one _ _
  · exact ValueIdx.select_zero _ _

/-- Lane `e` of head `h`. -/
def laneOf (h : Fin 8) (e : Fin 64) : Fin 512 := ⟨64 * h.val + e.val, by have := h.isLt; have := e.isLt; omega⟩

/-- A sum over `n · m` places is a sum over `n` blocks of `m`. -/
theorem sum_blocks {n m N : ℕ} (hN : n * m = N) (g : Fin n → Fin m → Fin N) (hg : ∀ a b, (g a b).val = m * a.val + b.val) (f : Fin N → EReal) :
    ∑ x, f x = ∑ a, ∑ b, f (g a b) := by
  subst hN
  rw [← Equiv.sum_comp finProdFinEquiv f, Fintype.sum_prod_type]
  refine Finset.sum_congr rfl fun a _ => Finset.sum_congr rfl fun b _ => congrArg f (Fin.ext ?_)
  rw [hg]
  exact Nat.add_comm _ _

/-- A sum over all lanes of what is kept of head `h`'s lanes is a sum over them. -/
theorem sum_masked (h : Fin 8) (f : Fin 512 → EReal) :
    (∑ x : Fin 512, if x.val / 64 = h.val then f x else 0) = ∑ e : Fin 64, f (laneOf h e) := by
  rw [sum_blocks (n := 8) (m := 64) rfl laneOf (fun _ _ => rfl)]
  have e : ∀ (a : Fin 8) (b : Fin 64), (laneOf a b).val / 64 = a.val := fun a b => by
    show (64 * a.val + b.val) / 64 = a.val
    have := b.isLt
    omega
  simp only [e]
  rw [Finset.sum_eq_single h]
  · simp
  · intro a _ ha
    exact Finset.sum_eq_zero fun b _ => if_neg fun hab => ha (Fin.ext hab)
  · intro hm
    exact absurd (Finset.mem_univ h) hm

/-- Attention of one query row: the weights `exp sⱼ · (1 / Σ exp s)` over the keys, times the values. -/
def attn (Q : Fin 64 → EReal) (K : Fin 128 → Fin 64 → EReal) (V : Fin 128 → EReal) : EReal :=
  ∑ j, Ideal.exp (∑ e, Q e * K j e) * Ideal.div 1 (∑ j', Ideal.exp (∑ e, Q e * K j' e)) * V j

/-- A score of head `h` sums over the lanes of that head alone. -/
theorem expScores_apply (h : Fin 8) (q k : FVec Ideal S128x512 .bf16) (i j : Fin 128) :
    expScores (BitVec.ofNat 32 h.val) q k (ix2 i j) = Ideal.exp (∑ e : Fin 64, q (ix2 i (laneOf h e)) * k (ix2 j (laneOf h e))) := by
  unfold expScores
  pointwise
  simp only [select_mask]
  rw [sum_masked h fun x => q (ix2 i x) * k (ix2 j x)]

/-- The reciprocal of a row is that of the sum of the row. -/
theorem recips_apply (p : FVec Ideal S128x128 .f32) (i j : Fin 128) : recips p (ix2 i j) = Ideal.div 1 (∑ x, p (ix2 i x)) := by
  unfold recips
  pointwise

/-- What head `h` adds: its attention on its own lanes, nothing elsewhere. -/
theorem headTerm_apply (h : Fin 8) (q k v : FVec Ideal S128x512 .bf16) (i : Fin 128) (l : Fin 512) :
    headTerm (BitVec.ofNat 32 h.val) q k v (ix2 i l)
      = if l.val / 64 = h.val then attn (fun e => q (ix2 i (laneOf h e))) (fun j e => k (ix2 j (laneOf h e))) (fun j => v (ix2 j l)) else 0 := by
  unfold headTerm
  pointwise
  rw [select_mask]
  simp only [recips_apply, expScores_apply]
  rfl

/-- The eight heads together. -/
theorem heads_apply (q k v : FVec Ideal S128x512 .bf16) (i : Fin 128) (h : Fin 8) (e : Fin 64) :
    heads q k v (ix2 i (laneOf h e))
      = attn (fun e' => q (ix2 i (laneOf h e'))) (fun j e' => k (ix2 j (laneOf h e'))) (fun j => v (ix2 j (laneOf h e))) := by
  have el : (laneOf h e).val / 64 = h.val := by
    show (64 * h.val + e.val) / 64 = h.val
    have := e.isLt
    omega
  have t : ∀ a : Fin 8, headTerm (BitVec.ofNat 32 a.val) q k v (ix2 i (laneOf h e))
      = if h = a then attn (fun e' => q (ix2 i (laneOf h e'))) (fun j e' => k (ix2 j (laneOf h e'))) (fun j => v (ix2 j (laneOf h e))) else 0 := fun a => by
    rw [headTerm_apply, el]
    by_cases ha : h = a
    · subst ha; rw [if_pos rfl, if_pos rfl]
    · rw [if_neg ha, if_neg fun hv => ha (Fin.ext hv)]
  have t0 := t 0; have t1 := t 1; have t2 := t 2; have t3 := t 3; have t4 := t 4; have t5 := t 5; have t6 := t 6; have t7 := t 7
  unfold heads
  pointwise
  generalize attn _ _ _ = A at *
  have s : headTerm 0#32 q k v (ix2 i (laneOf h e)) + headTerm 1#32 q k v (ix2 i (laneOf h e)) + headTerm 2#32 q k v (ix2 i (laneOf h e))
      + headTerm 3#32 q k v (ix2 i (laneOf h e)) + headTerm 4#32 q k v (ix2 i (laneOf h e)) + headTerm 5#32 q k v (ix2 i (laneOf h e))
      + headTerm 6#32 q k v (ix2 i (laneOf h e)) + headTerm 7#32 q k v (ix2 i (laneOf h e)) = ∑ a : Fin 8, if h = a then A else 0 := by
    rw [Fin.sum_univ_eight, ← t0, ← t1, ← t2, ← t3, ← t4, ← t5, ← t6, ← t7]
    rfl
  rw [s]
  simp

/-- The partial product of one batch: the heads' outputs against the device's rows of the output projection. -/
theorem prodOf_apply (wo : FVec Ideal S512x512 .bf16) (q k v : FVec Ideal S128x512 .bf16) (i : Fin 128) (n : Fin 512) :
    prodOf wo q k v (ix2 i n) = ∑ h : Fin 8, ∑ e : Fin 64,
      attn (fun e' => q (ix2 i (laneOf h e'))) (fun j e' => k (ix2 j (laneOf h e'))) (fun j => v (ix2 j (laneOf h e))) * wo (ix2 (laneOf h e) n) := by
  unfold prodOf
  pointwise
  rw [sum_blocks (n := 8) (m := 64) rfl laneOf (fun _ _ => rfl)]
  simp only [heads_apply]

/-! ## The operands -/

section Operands
variable (I : Inputs Ideal)

/-- A query: the scaled activations of a row against a column of the query weights. -/
theorem queries_apply (b : Fin 2) (i : Fin 128) (l : Fin 512) :
    queries I (ix2 ⟨128 * b.val + i.val, by have := b.isLt; have := i.isLt; omega⟩ l) = ∑ d : Fin 512, I.x (ix3 b i d) * Ideal.ofBits .bf16 0x3E00#16 * I.wq (ix2 d l) := by
  unfold queries
  pointwise [k0_pay1]

/-- A query of batch 0 is a row of the scaled activations against a column of the query weights. -/
theorem q0_apply (i : Fin 128) (l : Fin 512) : q0 I (ix2 i l) = ∑ d : Fin 512, I.x (ix3 0 i d) * Ideal.ofBits .bf16 0x3E00#16 * I.wq (ix2 d l) := by
  unfold q0
  pointwise [k0_pay6]
  rw [← queries_apply I (0 : Fin 2) i l]
  refine congrArg (fun r => queries I (ix2 r l)) (Fin.ext ?_)
  show i.val = 128 * 0 + i.val
  omega

/-- A query of batch 1 is a row of the scaled activations against a column of the query weights. -/
theorem q1_apply (i : Fin 128) (l : Fin 512) : q1 I (ix2 i l) = ∑ d : Fin 512, I.x (ix3 1 i d) * Ideal.ofBits .bf16 0x3E00#16 * I.wq (ix2 d l) := by
  unfold q1
  pointwise [k0_pay22]
  rw [← queries_apply I (1 : Fin 2) i l]
  refine congrArg (fun r => queries I (ix2 r l)) (Fin.ext ?_)
  show 128 + i.val = 128 * 1 + i.val
  omega

/-- Lane `e` of head `h` has head `h` and place `e`. -/
theorem lane_split {α : Type} (h : Fin 8) (e : Fin 64) (f : Fin 8 → Fin 64 → α) :
    f ⟨(laneOf h e).val / 64, by have := (laneOf h e).isLt; omega⟩ ⟨(laneOf h e).val % 64, Nat.mod_lt _ (by decide)⟩ = f h e := by
  have := e.isLt
  congr 1
  · apply Fin.ext; show (64 * h.val + e.val) / 64 = h.val; omega
  · apply Fin.ext; show (64 * h.val + e.val) % 64 = e.val; omega

/-- The place in the array of an element of one batch. -/
theorem batch_place {b : Fin 2} {j : Fin 128} {h : Fin 8} {e : Fin 64} {y : S2x128x8x64.Idx} (h0 : (y 0).val = b.val) (h1 : (y 1).val = 0 + 1 * j.val)
    (h2 : (y 2).val = 0 + 1 * h.val) (h3 : (y 3).val = 0 + 1 * e.val) : y = ix4 b j h e :=
  funext fun a => match a with
    | ⟨0, _⟩ => Fin.ext h0
    | ⟨1, _⟩ => Fin.ext (h1.trans (by show 0 + 1 * j.val = j.val; omega))
    | ⟨2, _⟩ => Fin.ext (h2.trans (by show 0 + 1 * h.val = h.val; omega))
    | ⟨3, _⟩ => Fin.ext (h3.trans (by show 0 + 1 * e.val = e.val; omega))

/-- The keys loaded for batch 0 are the array's at batch 0. -/
theorem keys0_apply (j : Fin 128) (h : Fin 8) (e : Fin 64) : keys0 I (ix4 0 j h e) = I.k (ix4 0 j h e) :=
  congrArg I.k (batch_place rfl rfl rfl rfl)

/-- The keys of batch 0 at lane `e` of head `h` are the array's at that head and lane. -/
theorem kk0_apply (j : Fin 128) (h : Fin 8) (e : Fin 64) : kk0 I (ix2 j (laneOf h e)) = I.k (ix4 0 j h e) := by
  unfold kk0
  pointwise [k0_pay7]
  rw [← keys0_apply I j h e]
  exact lane_split h e fun a b => keys0 I (ix4 0 j a b)

/-- The keys loaded for batch 1 are the array's at batch 1. -/
theorem keys1_apply (j : Fin 128) (h : Fin 8) (e : Fin 64) : keys1 I (ix4 0 j h e) = I.k (ix4 1 j h e) :=
  congrArg I.k (batch_place rfl rfl rfl rfl)

/-- The keys of batch 1 at lane `e` of head `h` are the array's at that head and lane. -/
theorem kk1_apply (j : Fin 128) (h : Fin 8) (e : Fin 64) : kk1 I (ix2 j (laneOf h e)) = I.k (ix4 1 j h e) := by
  unfold kk1
  pointwise [k0_pay23]
  rw [← keys1_apply I j h e]
  exact lane_split h e fun a b => keys1 I (ix4 0 j a b)

/-- The values loaded for batch 0 are the array's at batch 0. -/
theorem vals0_apply (j : Fin 128) (h : Fin 8) (e : Fin 64) : vals0 I (ix4 0 j h e) = I.v (ix4 0 j h e) :=
  congrArg I.v (batch_place rfl rfl rfl rfl)

/-- The values of batch 0 at lane `e` of head `h` are the array's at that head and lane. -/
theorem vv0_apply (j : Fin 128) (h : Fin 8) (e : Fin 64) : vv0 I (ix2 j (laneOf h e)) = I.v (ix4 0 j h e) := by
  unfold vv0
  pointwise [k0_pay8]
  rw [← vals0_apply I j h e]
  exact lane_split h e fun a b => vals0 I (ix4 0 j a b)

/-- The values loaded for batch 1 are the array's at batch 1. -/
theorem vals1_apply (j : Fin 128) (h : Fin 8) (e : Fin 64) : vals1 I (ix4 0 j h e) = I.v (ix4 1 j h e) :=
  congrArg I.v (batch_place rfl rfl rfl rfl)

/-- The values of batch 1 at lane `e` of head `h` are the array's at that head and lane. -/
theorem vv1_apply (j : Fin 128) (h : Fin 8) (e : Fin 64) : vv1 I (ix2 j (laneOf h e)) = I.v (ix4 1 j h e) := by
  unfold vv1
  pointwise [k0_pay24]
  rw [← vals1_apply I j h e]
  exact lane_split h e fun a b => vals1 I (ix4 0 j a b)

/-- The output weights as the products take them are the output weights. -/
theorem wo'_apply (a b : Fin 512) : wo' I (ix2 a b) = I.wo (ix2 a b) := by
  unfold wo'
  pointwise [k0_pay5]

/-- Row `i` of batch `b` of the device's partial product, at output column `n`. -/
def partAt (b : Fin 2) (i : Fin 128) (n : Fin 512) : EReal :=
  ∑ h : Fin 8, ∑ e : Fin 64,
    attn (fun e' => ∑ d : Fin 512, I.x (ix3 b i d) * Ideal.ofBits .bf16 0x3E00#16 * I.wq (ix2 d (laneOf h e'))) (fun j e' => I.k (ix4 b j h e'))
      (fun j => I.v (ix4 b j h e)) * I.wo (ix2 (laneOf h e) n)

/-- An element of batch 0 of the device's product is `partAt` at batch 0. -/
theorem prod0_apply (i : Fin 128) (n : Fin 512) : prod0 I (ix2 i n) = partAt I 0 i n := by
  rw [prod0_eq, prodOf_apply]
  simp only [q0_apply, kk0_apply, vv0_apply, wo'_apply]
  rfl

/-- An element of batch 1 of the device's product is `partAt` at batch 1. -/
theorem prod1_apply (i : Fin 128) (n : Fin 512) : prod1 I (ix2 i n) = partAt I 1 i n := by
  rw [prod1_eq, prodOf_apply]
  simp only [q1_apply, kk1_apply, vv1_apply, wo'_apply]
  rfl

end Operands

end Cert.KernelProof

end
-- ==== Proof.KernelValue.lean ====
/-
# The value each device leaves

A chunk is read at a row and column: the device's own part, what arrived in the first exchange, what arrived in the second.
Together they are the sum of the four devices' parts.
-/
module

public import proofs.«01_k».proof.Proof.Heads
public import proofs.«01_k».proof.Proof.Launch

@[expose] public section

set_option maxRecDepth 16384

noncomputable section

namespace Cert.KernelProof

open Cert.KernelIdeal Cert.KernelIdeal.Gen
open Idealize.ShloMosaic Idealize.SL.Sem Idealize.ShloMosaic.TcCoe

section Chunks
variable (I : Inputs Ideal)

/-- The batch of chunk `i`. -/
def chunkBatch (i : Fin 4) : Fin 2 := ⟨i.val / 2, by have := i.isLt; omega⟩
/-- The row of the batch that row `a` of chunk `i` is. -/
def chunkRow (i : Fin 4) (a : Fin 64) : Fin 128 := ⟨64 * (i.val % 2) + a.val, by have := a.isLt; omega⟩

/-- Half `o` of a product's rows. -/
theorem half_apply {F : FTy → Type} (p : FVec F S128x512 .f32) (o : ℕ) (h : S128x512.Slices ![o, 0] S64x512) (a : Fin 64) (n : Fin 512) (r : Fin 128)
    (hr : r.val = o + a.val) : extractStridedSlice S64x512 ![o, 0] p h (ix2 a n) = p (ix2 r n) := by
  refine congrArg p (funext fun k => ?_)
  match k with
  | ⟨0, _⟩ => exact Fin.ext hr.symm
  | ⟨1, _⟩ => exact Fin.ext (Nat.zero_add _)

/-- A chunk of the device's partial product. -/
theorem part_apply (i : Fin 4) (a : Fin 64) (n : Fin 512) : part I i (ix2 a n) = partAt I (chunkBatch i) (chunkRow i a) n := by
  match i with
  | 0 => exact (half_apply (prod0 I) 0 slices_S128x512_o0_0_S64x512 a n (chunkRow 0 a) rfl).trans (prod0_apply I _ n)
  | 1 => exact (half_apply (prod0 I) 64 slices_S128x512_o64_0_S64x512 a n (chunkRow 1 a) rfl).trans (prod0_apply I _ n)
  | 2 => exact (half_apply (prod1 I) 0 slices_S128x512_o0_0_S64x512 a n (chunkRow 2 a) rfl).trans (prod1_apply I _ n)
  | 3 => exact (half_apply (prod1 I) 64 slices_S128x512_o64_0_S64x512 a n (chunkRow 3 a) rfl).trans (prod1_apply I _ n)

/-- A chunk as it travels. -/
def wire (x : FVec Ideal S64x512 .f32) : Vec Ideal S1x1x64x512 .bf16 := shapeCast S1x1x64x512 (truncf .bf16 x bitsLt_bf16_f32) shapeCasts_S64x512_S1x1x64x512
/-- A chunk with one that arrived added. -/
def plus (x : FVec Ideal S64x512 .f32) (r : Vec Ideal S1x1x64x512 .bf16) : FVec Ideal S64x512 .f32 :=
  addf x (extf .f32 (shapeCast S64x512 r shapeCasts_S1x1x64x512_S64x512) bitsLt_bf16_f32)
/-- A chunk as it is stored. -/
def kept (x : FVec Ideal S64x512 .f32) : Vec Ideal S1x64x512 .bf16 := shapeCast S1x64x512 (truncf .bf16 x bitsLt_bf16_f32) shapeCasts_S64x512_S1x64x512

/-- Adding a chunk that travelled adds its elements. -/
theorem plus_wire (x y : FVec Ideal S64x512 .f32) (a : Fin 64) (n : Fin 512) : plus x (wire y) (ix2 a n) = x (ix2 a n) + y (ix2 a n) := by
  pointwise [plus, wire]
/-- Storing a chunk keeps its elements. -/
theorem kept_apply (x : FVec Ideal S64x512 .f32) (a : Fin 64) (n : Fin 512) : kept x (ix3 0 a n) = x (ix2 a n) := by
  pointwise [kept]

/-- What the first exchange sends is the device's own chunk. -/
theorem wire0_eq (i : Fin 4) : wire0 I i = wire (part I i) := by fin_cases i <;> rfl
/-- What is accumulated after the first exchange is the device's own chunk with the arrived one added. -/
theorem acc_eq (i : Fin 4) (r : Vec Ideal S1x1x64x512 .bf16) : acc I i r = plus (part I i) r := by fin_cases i <;> rfl
/-- What the second exchange sends is the device's own chunk with the first arrived one added. -/
theorem wire1_eq (i : Fin 4) (r : Vec Ideal S1x1x64x512 .bf16) : wire1 I i r = wire (plus (part I i) r) := by fin_cases i <;> rfl
/-- What is stored is the device's own chunk with both arrived chunks added. -/
theorem stored_eq (i : Fin 4) (r r' : Vec Ideal S1x1x64x512 .bf16) : stored I i r r' = kept (plus (plus (part I i) r) r') := by fin_cases i <;> rfl

end Chunks

variable (m : (ℓ : Loc nD τ sig) → Buf (Elt Ideal) ℓ) (ρ : Dev nD → PrngReg)

/-- The four devices, each once: a device, its first partner, its second, and that one's first. -/
theorem sum_devices (f : Dev nD → EReal) (c : Dev nD) : f c + f (p0 c) + (f (p1 c) + f (p0 (p1 c))) = ∑ d : Fin 4, f d := by
  rw [Fin.sum_univ_four]
  match c with
  | 0 => show f 0 + f 1 + (f 3 + f 2) = f 0 + f 1 + f 2 + f 3; rw [add_comm (f 3), ← add_assoc]
  | 1 => show f 1 + f 0 + (f 2 + f 3) = f 0 + f 1 + f 2 + f 3; rw [add_comm (f 1), ← add_assoc]
  | 2 => show f 2 + f 3 + (f 1 + f 0) = f 0 + f 1 + f 2 + f 3; rw [add_comm, add_comm (f 1), ← add_assoc]
  | 3 => show f 3 + f 2 + (f 0 + f 1) = f 0 + f 1 + f 2 + f 3; rw [add_comm, add_comm (f 3), ← add_assoc]

/-- What a device stores is the sum of the four devices' parts. -/
theorem result_apply (c : Dev nD) (i : Fin 4) (a : Fin 64) (n : Fin 512) :
    result m ρ c i (ix3 0 a n) = ∑ d : Fin 4, partAt (inputs m ρ d) (chunkBatch i) (chunkRow i a) n := by
  rw [← sum_devices (fun d => partAt (inputs m ρ d) (chunkBatch i) (chunkRow i a) n) c]
  unfold result second first
  rw [stored_eq, wire1_eq, wire0_eq, wire0_eq, kept_apply, plus_wire, plus_wire, plus_wire]
  simp only [part_apply]

/-- The result of a device, at a batch, row and column. -/
theorem outAt_apply (c : Dev nD) (b : Fin 2) (r : Fin 128) (n : Fin 512) :
    outAt m ρ c (ix3 b r n) = ∑ d : Fin 4, partAt (inputs m ρ d) b r n := by
  have hb := b.isLt
  have hr := r.isLt
  refine (result_apply m ρ c ⟨2 * b.val + r.val / 64, by omega⟩ ⟨r.val % 64, Nat.mod_lt _ (by decide)⟩ n).trans ?_
  rw [show chunkBatch ⟨2 * b.val + r.val / 64, by omega⟩ = b from Fin.ext (by show (2 * b.val + r.val / 64) / 2 = b.val; omega),
    show chunkRow ⟨2 * b.val + r.val / 64, by omega⟩ ⟨r.val % 64, Nat.mod_lt _ (by decide)⟩ = r from
      Fin.ext (by show 64 * ((2 * b.val + r.val / 64) % 2) + r.val % 64 = r.val; omega)]

/-! ## The staged arrays are the arguments -/

/-- A place of a block at the origin is that place of the array. -/
theorem same_place {s : Shape} {x y : s.Idx} (h : ∀ a, (y a).val = 0 * s.size a + 1 * (x a).val) : y = x :=
  funext fun a => Fin.ext (by rw [h a]; omega)

/-- What the body loads are the device's argument arrays. -/
theorem inputs_eq (c : Dev nD) : inputs m ρ c =
    ⟨m ((c : Thread nD τ).loc main_arg0), m ((c : Thread nD τ).loc main_arg1), m ((c : Thread nD τ).loc main_arg2),
      m ((c : Thread nD τ).loc main_arg3), m ((c : Thread nD τ).loc main_arg4)⟩ := by
  unfold inputs
  congr 1
  exacts [funext fun x => congrArg (m ((c : Thread nD τ).loc main_arg0)) (same_place (x := x) fun a => rfl),
    funext fun x => congrArg (m ((c : Thread nD τ).loc main_arg1)) (same_place (x := x) fun a => rfl),
    funext fun x => congrArg (m ((c : Thread nD τ).loc main_arg2)) (same_place (x := x) fun a => rfl),
    funext fun x => congrArg (m ((c : Thread nD τ).loc main_arg3)) (same_place (x := x) fun a => rfl),
    funext fun x => congrArg (m ((c : Thread nD τ).loc main_arg4)) (same_place (x := x) fun a => rfl)]

/-- The result array ends at what was stored. -/
theorem finalA_out (c : Dev nD) : finalA m ρ c 5 = outAt m ρ c := by
  refine (dats m ρ 0 c).arrAt_eq_of_cover 5 (outAt m ρ c) (fun t _ => ?_) fun i => ⟨t0_0, flush0_5 _, ?_⟩
  · exact funext fun x => congrArg (outAt m ρ c) (same_place (x := x) fun a => rfl).symm
  · have e : ((cfg0.win 5).blk t0_0).view.emb i = i := same_place fun a => rfl
    exact e ▸ View.emb_mem_set _ i

end Cert.KernelProof

end
-- ==== Proof.Softmax.lean ====
/-
# The softmax, with and without the running maximum

The reference subtracts a row's maximum from its scores before it exponentiates and divides once at the end; the kernel
exponentiates the scores as they are and multiplies by the reciprocal of their sum. Where the scores are real numbers the
two are one value, whatever the values weighted (they may be infinite).
-/
module

public import proofs.«01_k».proof.Proof.Heads

@[expose] public section

noncomputable section

namespace Cert.KernelProof

open Idealize.ShloMosaic

/-- An extended real that is a real number. -/
def IsReal (a : EReal) : Prop := ∃ r : ℝ, a = (r : EReal)

/-! ## The constants -/

/-- The start of the running maximum. -/
theorem start_eq : Ideal.ofBits .f32 0xFF800000#32 = ⊥ := by simp [Ideal.ofBits, Ideal.ieee]

/-- The scale of the scores as the kernel has it is one eighth. -/
theorem scale_bf16 : Ideal.ofBits .bf16 0x3E00#16 = ((1 / 8 : ℝ) : EReal) := by
  simp [Ideal.ofBits, Ideal.ieee, -EReal.coe_mul]; norm_num

/-- The scale of the scores as the reference has it is one eighth. -/
theorem scale_f32 : Ideal.ofBits .f32 0x3E000000#32 = ((1 / 8 : ℝ) : EReal) := by
  simp [Ideal.ofBits, Ideal.ieee, -EReal.coe_mul]; norm_num

/-! ## Sums of reals, and a real factor -/

/-- A sum of reals is a real. -/
theorem sum_real {ι : Type} [Fintype ι] (f : ι → ℝ) : ∑ i, (f i : EReal) = ((∑ i, f i : ℝ) : EReal) :=
  (map_sum (⟨⟨Real.toEReal, EReal.coe_zero⟩, EReal.coe_add⟩ : ℝ →+ EReal) f Finset.univ).symm

/-- A nonnegative real distributes over any sum. -/
theorem sum_mul_real {ι : Type} [Fintype ι] (f : ι → EReal) {a : ℝ} (ha : 0 ≤ a) : (∑ i, f i) * (a : EReal) = ∑ i, f i * (a : EReal) :=
  map_sum (⟨⟨fun x => x * (a : EReal), zero_mul _⟩, fun x y =>
    EReal.right_distrib_of_nonneg_of_ne_top (EReal.coe_nonneg.2 ha) (EReal.coe_ne_top a) x y⟩ : EReal →+ EReal) f Finset.univ

/-- Division by a real that is not zero. -/
theorem div_real (x : EReal) {a : ℝ} (ha : a ≠ 0) : Ideal.div x (a : EReal) = x * ((a⁻¹ : ℝ) : EReal) := by
  rw [Ideal.div, if_neg (EReal.coe_ne_zero.2 ha), EReal.coe_inv]

/-! ## The two forms -/

/-- The maximum that the reference subtracts. -/
def peak (s : Fin 128 → EReal) : EReal :=
  max (Ideal.ofBits .f32 0xFF800000#32) (Finset.fold max (Ideal.ofBits .f32 0xFF800000#32) s Finset.univ)

/-- A row of the reference's attention: scores `s`, values `v`. -/
def softRow (s v : Fin 128 → EReal) : EReal :=
  Ideal.div (0 * Ideal.exp (Ideal.ofBits .f32 0xFF800000#32 - peak s) + ∑ j, v j * Ideal.exp (s j - peak s))
    (0 * Ideal.exp (Ideal.ofBits .f32 0xFF800000#32 - peak s) + ∑ j, Ideal.exp (s j - peak s))

/-- Of real scores the maximum is real. -/
theorem peak_real (s : Fin 128 → ℝ) : IsReal (peak fun j => (s j : EReal)) := by
  obtain ⟨i, -, hi⟩ := Finset.exists_mem_eq_sup Finset.univ ⟨0, Finset.mem_univ _⟩ fun j => (s j : EReal)
  refine ⟨s i, ?_⟩
  rw [peak, start_eq, max_bot_left]
  exact hi

/-- Subtracting a constant from the scores does not change the weights. -/
theorem weight_eq (s : Fin 128 → ℝ) (M : ℝ) (j : Fin 128) :
    Real.exp (s j - M) * (∑ j', Real.exp (s j' - M))⁻¹ = Real.exp (s j) * (∑ j', Real.exp (s j'))⁻¹ := by
  simp only [Real.exp_sub, ← Finset.sum_div]
  have hM := (Real.exp_pos M).ne'
  rw [inv_div, div_mul_div_comm, mul_comm (Real.exp M), mul_div_mul_right _ _ hM, div_eq_mul_inv]

/-- The reference's row in the kernel's form. -/
theorem softRow_eq (s : Fin 128 → ℝ) (v : Fin 128 → EReal) : softRow (fun j => (s j : EReal)) v =
    ∑ j, Ideal.exp (s j : EReal) * Ideal.div 1 (∑ j', Ideal.exp (s j' : EReal)) * v j := by
  obtain ⟨M, hM⟩ := peak_real s
  have pos (t : Fin 128 → ℝ) : 0 < ∑ j, Real.exp (t j) := Finset.sum_pos (fun j _ => Real.exp_pos _) ⟨0, Finset.mem_univ _⟩
  have real (t : ℝ) : Ideal.exp (t : EReal) = (Real.exp t : EReal) := rfl
  have low : Ideal.exp (⊥ - (M : EReal)) = 0 := by rw [EReal.bot_sub]; rfl
  have hL := pos fun j => s j - M
  have hS := pos s
  rw [softRow, hM, start_eq, low, zero_mul, zero_add, zero_add]
  simp only [← EReal.coe_sub, real, sum_real]
  rw [div_real _ hL.ne', div_real _ hS.ne', sum_mul_real _ (inv_nonneg.2 hL.le), one_mul]
  refine Finset.sum_congr rfl fun j _ => ?_
  rw [mul_assoc, ← EReal.coe_mul, weight_eq, EReal.coe_mul, mul_comm]

/-! ## The scores -/

/-- The scale taken on the input is the scale taken on the score, where everything is real; and the score is real. -/
theorem score_eq (x : Fin 512 → EReal) (w : Fin 512 → Fin 64 → EReal) (k : Fin 64 → EReal) (hx : ∀ d, IsReal (x d))
    (hw : ∀ d e, IsReal (w d e)) (hk : ∀ e, IsReal (k e)) : ∃ r : ℝ,
    ∑ e, (∑ d, x d * Ideal.ofBits .bf16 0x3E00#16 * w d e) * k e = (r : EReal)
      ∧ (∑ e, (∑ d, x d * w d e) * k e) * Ideal.ofBits .f32 0x3E000000#32 = (r : EReal) := by
  choose X hX using hx
  choose W hW using hw
  choose K hK using hk
  refine ⟨(∑ e, (∑ d, X d * W d e) * K e) * (1 / 8), ?_, ?_⟩
  · simp only [hX, hW, hK, scale_bf16, ← EReal.coe_mul, sum_real]
    refine congrArg _ ?_
    rw [Finset.sum_mul]
    refine Finset.sum_congr rfl fun e _ => ?_
    rw [mul_right_comm, Finset.sum_mul Finset.univ fun d => X d * W d e]
    exact congrArg (· * K e) (Finset.sum_congr rfl fun d _ => mul_right_comm _ _ _)
  · simp only [hX, hW, hK, scale_f32, ← EReal.coe_mul, sum_real]

/-- A row of the kernel's attention is that row of the reference's. -/
theorem attn_eq (x : Fin 512 → EReal) (w : Fin 512 → Fin 64 → EReal) (k : Fin 128 → Fin 64 → EReal) (v : Fin 128 → EReal)
    (hx : ∀ d, IsReal (x d)) (hw : ∀ d e, IsReal (w d e)) (hk : ∀ j e, IsReal (k j e)) :
    attn (fun e => ∑ d, x d * Ideal.ofBits .bf16 0x3E00#16 * w d e) k v =
      softRow (fun j => (∑ e, (∑ d, x d * w d e) * k j e) * Ideal.ofBits .f32 0x3E000000#32) v := by
  choose r hr using fun j => score_eq x w (k j) hx hw (hk j)
  simp only [attn, fun j => (hr j).1, fun j => (hr j).2]
  exact (softRow_eq r v).symm

end Cert.KernelProof

end
-- ==== Proof.Regroup.lean ====
/-
# The sum over lanes, device by device

The reference sums over all the lanes of the attention's output. Grouped by device, head and lane of a head, each group of
that sum is one device's part of the kernel's.
-/
module

public import proofs.«01_k».proof.Proof.Gen.KernelIdeal
public import proofs.«01_k».proof.Proof.Gen.ReferenceIdeal
public import proofs.«01_k».proof.Proof.Softmax
public import Idealize.ShloMosaic.Lib.Layout

@[expose] public section

noncomputable section

namespace Cert.KernelProof

open Cert.ReferenceIdeal
open Idealize.ShloMosaic

section Whole
variable (X : FVec Ideal S2x128x512 .bf16) (Wq : FVec Ideal S512x2048 .bf16) (K V : FVec Ideal S2x128x32x64 .bf16) (Wo : FVec Ideal S2048x512 .bf16)
  (b : Fin 2) (r : Fin 128) (n : Fin 512)

/-- What one lane of the output adds: a row of attention (its head `h`, its lane `e` of the head, the query's lanes `q`)
    times the output weight at lane `x`. -/
def laneTerm (h : Fin 32) (e : Fin 64) (q : Fin 64 → Fin 2048) (x : Fin 2048) : EReal :=
  softRow (fun j => (∑ e' : Fin 64, (∑ d : Fin 512, X (ix3 b r d) * Wq (ix2 d (q e'))) * K (ix4 b j h e')) * Ideal.ofBits .f32 0x3E000000#32)
    (fun j => V (ix4 b j h e)) * Wo (ix2 x n)

/-- The reference at a place, of its five arrays. -/
def refAt : EReal :=
  ∑ x : Fin 2048, laneTerm X Wq K V Wo b r n ⟨x.val / 64, by have := x.isLt; omega⟩ ⟨x.val % 64, by omega⟩
    (fun e' => ⟨x.val / 64 * 64 + e'.val, by have := x.isLt; have := e'.isLt; omega⟩) x

/-- Head `h` of device `c`, among all heads. -/
def headAt (c : Fin 4) (h : Fin 8) : Fin 32 := ⟨c.val * 8 + h.val, by have := c.isLt; have := h.isLt; omega⟩
/-- Lane `l` of device `c`, among all lanes. -/
def laneAt (c : Fin 4) (l : Fin 512) : Fin 2048 := ⟨c.val * 512 + l.val, by have := c.isLt; have := l.isLt; omega⟩

/-- The sum over the lanes, by device, head and lane of the head. -/
theorem refAt_eq : refAt X Wq K V Wo b r n = ∑ c : Fin 4, ∑ h : Fin 8, ∑ e : Fin 64,
    laneTerm X Wq K V Wo b r n (headAt c h) e (fun e' => laneAt c (laneOf h e')) (laneAt c (laneOf h e)) := by
  unfold refAt
  rw [sum_blocks rfl laneAt fun c l => by show c.val * 512 + l.val = _; omega]
  refine Finset.sum_congr rfl fun c _ => ?_
  rw [sum_blocks (n := 8) (m := 64) rfl laneOf fun _ _ => rfl]
  refine Finset.sum_congr rfl fun h _ => Finset.sum_congr rfl fun e _ => ?_
  have := e.isLt
  have val : (laneAt c (laneOf h e)).val = c.val * 512 + (64 * h.val + e.val) := rfl
  congr 1
  · exact Fin.ext (by show (laneAt c (laneOf h e)).val / 64 = c.val * 8 + h.val; omega)
  · exact Fin.ext (by show (laneAt c (laneOf h e)).val % 64 = e.val; omega)
  · exact funext fun e' => Fin.ext (by
      show (laneAt c (laneOf h e)).val / 64 * 64 + e'.val = c.val * 512 + (64 * h.val + e'.val); omega)

end Whole

/-! ## A device's blocks of the whole arrays -/

/-- A device's block of the query weights is its 512 columns of them. -/
theorem block_cols (c : Fin 4) (Wq : FVec Ideal S512x2048 .bf16) (d l : Fin 512) :
    Layout.block ⟨2, ![512, 512]⟩ ⟨2, ![512, 2048]⟩ 1 4 c Wq (by decide) (ix2 d l) = Wq (ix2 d (laneAt c l)) :=
  congrArg Wq (funext fun a => Fin.ext (by match a with | ⟨0, _⟩ => rfl | ⟨1, _⟩ => rfl))

/-- A device's block of the keys or of the values is its eight heads of them. -/
theorem block_heads (c : Fin 4) (K : FVec Ideal S2x128x32x64 .bf16) (b : Fin 2) (j : Fin 128) (h : Fin 8) (e : Fin 64) :
    Layout.block ⟨4, ![2, 128, 8, 64]⟩ ⟨4, ![2, 128, 32, 64]⟩ 2 4 c K (by decide) (ix4 b j h e) = K (ix4 b j (headAt c h) e) :=
  congrArg K (funext fun a => Fin.ext (by match a with | ⟨0, _⟩ => rfl | ⟨1, _⟩ => rfl | ⟨2, _⟩ => rfl | ⟨3, _⟩ => rfl))

/-- A device's block of the output weights is its 512 rows of them. -/
theorem block_rows (c : Fin 4) (Wo : FVec Ideal S2048x512 .bf16) (l n : Fin 512) :
    Layout.block ⟨2, ![512, 512]⟩ ⟨2, ![2048, 512]⟩ 0 4 c Wo (by decide) (ix2 l n) = Wo (ix2 (laneAt c l) n) :=
  congrArg Wo (funext fun a => Fin.ext (by match a with | ⟨0, _⟩ => rfl | ⟨1, _⟩ => rfl))

/-- One device's part, where what enters its scores is real: its group of the reference's sum. -/
theorem partAt_eq (c : Fin 4) (X : FVec Ideal S2x128x512 .bf16) (Wq : FVec Ideal S512x2048 .bf16) (K V : FVec Ideal S2x128x32x64 .bf16)
    (Wo : FVec Ideal S2048x512 .bf16) (I : Inputs Ideal) (hx : I.x = X)
    (hwq : I.wq = Layout.block ⟨2, ![512, 512]⟩ ⟨2, ![512, 2048]⟩ 1 4 c Wq)
    (hk : I.k = Layout.block ⟨4, ![2, 128, 8, 64]⟩ ⟨4, ![2, 128, 32, 64]⟩ 2 4 c K)
    (hv : I.v = Layout.block ⟨4, ![2, 128, 8, 64]⟩ ⟨4, ![2, 128, 32, 64]⟩ 2 4 c V)
    (hwo : I.wo = Layout.block ⟨2, ![512, 512]⟩ ⟨2, ![2048, 512]⟩ 0 4 c Wo)
    (rx : ∀ b r d, IsReal (I.x (ix3 b r d))) (rwq : ∀ d l, IsReal (I.wq (ix2 d l))) (rk : ∀ b j h e, IsReal (I.k (ix4 b j h e)))
    (b : Fin 2) (r : Fin 128) (n : Fin 512) :
    partAt I b r n = ∑ h : Fin 8, ∑ e : Fin 64,
      laneTerm X Wq K V Wo b r n (headAt c h) e (fun e' => laneAt c (laneOf h e')) (laneAt c (laneOf h e)) := by
  refine Finset.sum_congr rfl fun h _ => Finset.sum_congr rfl fun e _ => ?_
  rw [attn_eq _ (fun d e' => I.wq (ix2 d (laneOf h e'))) _ _ (rx b r) (fun d e' => rwq d _) (fun j e' => rk b j h e')]
  simp only [hx, hwq, hk, hv, hwo, block_cols, block_heads, block_rows]
  rfl

end Cert.KernelProof

end
-- ==== Proof.ReferenceValue.lean ====
/-
# The value of the reference

The reference's composed term, read at a batch, row and column.
-/
module

public import proofs.«01_k».proof.Proof.Gen.ReferenceIdeal
public import proofs.«01_k».proof.Proof.Gen.ReferenceIdeal.Run
public import proofs.«01_k».proof.Proof.Regroup
public import Idealize.ShloMosaic.Lib.Pointwise
public import Idealize.ShloMosaic.Lib.Tactic.CleanTypes

@[expose] public section

set_option maxRecDepth 16384

noncomputable section

namespace Cert.KernelProof

open Cert.ReferenceIdeal Cert.ReferenceIdeal.Gen Cert.ReferenceIdeal.Value
open Idealize.ShloMosaic Idealize.ShloMosaic.TcCoe

variable (m : (ℓ : Loc nD τ sig) → Buf (Elt Ideal) ℓ) (c : Dev nD)

set_option maxHeartbeats 2000000 in
/-- The composed term at a place. -/
theorem ref_apply (b : Fin 2) (r : Fin 128) (n : Fin 512) : res_main_v34 m c (ix3 b r n) =
    refAt (m (c.tc.loc main_arg0)) (m (c.tc.loc main_arg1)) (m (c.tc.loc main_arg2)) (m (c.tc.loc main_arg3)) (m (c.tc.loc main_arg4)) b r n := by
  unfold res_main_v34
  clean_types
  pointwise
  rfl

end Cert.KernelProof

end
-- ==== Proof.Precondition.lean ====
/-
# The precondition, read as finite reals

The precondition compares the magnitude of each element of the input, the query weights and the keys with infinity; an
element whose magnitude is below infinity is a real number.
-/
module

public import proofs.«01_k».proof.Defs
public import proofs.«01_k».proof.Proof.Softmax

@[expose] public section

noncomputable section

namespace Cert.KernelProof

open Idealize.ShloMosaic

/-! ## The side conditions of the precondition -/

/-- The shape conditions of the precondition on one device's blocks hold. -/
theorem factsPreKernel : Cert.Pre_finite_KernelIdeal.Facts where
  bcast_S_S2x128x512 := by decide
  bcast_S_S512x512 := by decide
  bcast_S_S2x128x8x64 := by decide

/-- The shape conditions of the precondition on the whole arrays hold. -/
theorem factsPreReference : Cert.Pre_finite_ReferenceIdeal.Facts where
  bcast_S_S2x128x512 := by decide
  bcast_S_S512x2048 := by decide
  bcast_S_S2x128x32x64 := by decide

/-- The bound of the precondition. -/
theorem bound_eq : Ideal.ofBits .bf16 0x7F80#16 = ⊤ := by simp [Ideal.ofBits, Ideal.ieee]

/-- A magnitude below infinity is a real number's. -/
theorem real_of_lt (a : EReal) (h : max a (-a) < ⊤) : IsReal a := by
  induction a with
  | bot => exact absurd h (by simp)
  | coe r => exact ⟨r, rfl⟩
  | top => exact absurd h (by simp)

/-- An array that passes the comparison holds real numbers. -/
theorem real_of_cmp {s : Shape} (hb : (⟨0, ![]⟩ : Shape).BroadcastsInDim s ![]) (x : FVec Ideal s .bf16)
    (h : cmpf .olt (Host.absf x) (broadcastInDim s ![] hb (constant ⟨0, ![]⟩ .bf16 0x7F80#16)) = fun _ => 1#1) (i : s.Idx) : IsReal (x i) := by
  refine real_of_lt _ (Decidable.byContradiction fun hn => ?_)
  have e : Ideal.cmp .olt (max (x i : EReal) (-(x i))) (Ideal.ofBits .bf16 0x7F80#16) = 1#1 := congrFun h i
  rw [bound_eq] at e
  simp [Ideal.cmp, hn] at e

attribute [local instance] Cert.KernelIdeal.Gen.facts factsPreKernel

variable {m : (ℓ : Loc Cert.KernelIdeal.nD Cert.KernelIdeal.τ Cert.KernelIdeal.sig) → Buf (Elt Ideal) ℓ}

/-- Under the precondition the activations are real numbers. -/
theorem real_arg0 (h : Cert.Pre_KernelIdeal_finite_KernelIdeal m) (c : Dev Cert.KernelIdeal.nD) (b : Fin 2) (r : Fin 128) (d : Fin 512) :
    IsReal (m (c.tc.loc Cert.KernelIdeal.main_arg0) (ix3 b r d)) := real_of_cmp _ _ (h c).1 _
/-- Under the precondition the query weights are real numbers. -/
theorem real_arg1 (h : Cert.Pre_KernelIdeal_finite_KernelIdeal m) (c : Dev Cert.KernelIdeal.nD) (d l : Fin 512) :
    IsReal (m (c.tc.loc Cert.KernelIdeal.main_arg1) (ix2 d l)) := real_of_cmp _ _ (h c).2.1 _
/-- Under the precondition the keys are real numbers. -/
theorem real_arg2 (h : Cert.Pre_KernelIdeal_finite_KernelIdeal m) (c : Dev Cert.KernelIdeal.nD) (b : Fin 2) (j : Fin 128) (a : Fin 8) (e : Fin 64) :
    IsReal (m (c.tc.loc Cert.KernelIdeal.main_arg2) (ix4 b j a e)) := real_of_cmp _ _ (h c).2.2 _

end Cert.KernelProof

end
-- ==== Proof.Algebraic.lean ====
/-
# The kernel computes the reference

Every device's result is the sum of the four devices' parts, and grouped by device the reference's sum over lanes is the
same sum.
-/
module

public import proofs.«01_k».proof.Proof.Frames
public import proofs.«01_k».proof.Proof.KernelValue
public import proofs.«01_k».proof.Proof.ReferenceValue
public import proofs.«01_k».proof.Proof.Precondition

@[expose] public section

set_option maxRecDepth 16384

noncomputable section

namespace Cert.KernelProof

open Idealize.ShloMosaic Idealize.SL.Sem Idealize.ShloMosaic.TcCoe

attribute [local instance] Cert.KernelIdeal.Gen.facts Cert.ReferenceIdeal.Gen.facts factsPreKernel

/-- The value claim: from corresponding arrays, the elements that enter the scores finite, every device ends with the
    reference's result. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := factsPreKernel) := by
  intro m g m' g' pre same
  have value (c : Dev Cert.KernelIdeal.nD) : outAt m g c = Cert.ReferenceIdeal.Value.res_main_v34 m' 0 := by
    funext i
    obtain ⟨b, r, n, rfl⟩ : ∃ (b : Fin 2) (r : Fin 128) (n : Fin 512), i = ix3 b r n := ⟨i 0, i 1, i 2, eq_ix3 i⟩
    refine (outAt_apply m g c b r n).trans (Eq.symm ?_)
    refine (ref_apply m' 0 b r n).trans ((refAt_eq _ _ _ _ _ b r n).trans (Finset.sum_congr rfl fun d _ => Eq.symm ?_))
    rw [inputs_eq]
    exact partAt_eq d _ _ _ _ _ _ (same d).1 (same d).2.1 (same d).2.2.1 (same d).2.2.2.1 (same d).2.2.2.2
      (real_arg0 pre d) (real_arg1 pre d) (real_arg2 pre d) b r n
  refine ⟨Cert.ReferenceIdeal.Value.res_main_v34 m' 0, ?_, ?_⟩
  · exact (θ_run _ _ _).mono (fun r h c => ⟨((h.1 c 5).trans (finalA_out m g c)).trans (value c), args_kept m g h.1 c⟩)
      (run_main (F := Ideal) m g)
  · exact (θ_run _ _ _).mono (fun r h => h 0) (Cert.ReferenceIdeal.Value.run (F := Ideal) m' g')

end Cert.KernelProof

end
-- ==== Proof.lean ====
module

public import proofs.«01_k».proof.Defs
public import proofs.«01_k».proof.Proof.Frames
public import proofs.«01_k».proof.Proof.Algebraic

@[expose] public section

noncomputable section

namespace Cert.Proof

/-- The certificate's claim. -/
theorem claim : Cert.Claim := ⟨Cert.Kernel.Gen.facts, Cert.KernelIdeal.Gen.facts, Cert.ReferenceIdeal.Gen.facts,
  Cert.KernelProof.factsPreKernel, Cert.KernelProof.factsPreReference,
  Cert.KernelProof.frame_kernel, Cert.KernelProof.frame_kernelIdeal, fun m ρ _ => Cert.KernelProof.frame_kernelIdeal m ρ trivial,
  Cert.KernelProof.frame_referenceIdeal, fun m ρ _ => Cert.KernelProof.frame_referenceIdeal m ρ trivial, trivial,
  Cert.KernelProof.algebraic⟩

end Cert.Proof

end
